-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x1536x8192 : Shape := ⟨3, ![12, 1536, 8192]⟩
abbrev S12x1536x1024 : Shape := ⟨3, ![12, 1536, 1024]⟩
abbrev S1024x8192 : Shape := ⟨2, ![1024, 8192]⟩
abbrev S1 : Shape := ⟨1, ![1]⟩
abbrev S18432x8192 : Shape := ⟨2, ![18432, 8192]⟩
abbrev S18432x1024 : Shape := ⟨2, ![18432, 1024]⟩
abbrev S18432x8 : Shape := ⟨2, ![18432, 8]⟩
abbrev S512x1024 : Shape := ⟨2, ![512, 1024]⟩
abbrev S512x8 : Shape := ⟨2, ![512, 8]⟩
abbrev S1024x512 : Shape := ⟨2, ![1024, 512]⟩
abbrev S8x1024x1024 : Shape := ⟨3, ![8, 1024, 1024]⟩
abbrev S_ : Shape := ⟨0, ![]⟩
abbrev S512x128 : Shape := ⟨2, ![512, 128]⟩
abbrev S512 : Shape := ⟨1, ![512]⟩
abbrev S512x1 : Shape := ⟨2, ![512, 1]⟩
abbrev S1024x1024 : Shape := ⟨2, ![1024, 1024]⟩
abbrev S1x1024x1024 : Shape := ⟨3, ![1, 1024, 1024]⟩
abbrev S12x1536x8 : Shape := ⟨3, ![12, 1536, 8]⟩

abbrev nBuf : Space → Nat
  | .hbm => 13
  | .vmem => 14
  | .smem => 1
  | _ => 0

abbrev bufTy : (tb : Table) → Fin (tcTables nBuf tb) → BufTy
  | .hbm, ⟨0, _⟩ => ⟨S12x1536x8192, .bf16⟩
  | .hbm, ⟨1, _⟩ => ⟨S12x1536x1024, .bf16⟩
  | .hbm, ⟨2, _⟩ => ⟨S1024x8192, .i8⟩
  | .hbm, ⟨3, _⟩ => ⟨S1, .f32⟩
  | .hbm, ⟨4, _⟩ => ⟨S18432x8192, .bf16⟩
  | .hbm, ⟨5, _⟩ => ⟨S18432x1024, .bf16⟩
  | .hbm, ⟨6, _⟩ => ⟨S18432x8192, .bf16⟩
  | .hbm, ⟨7, _⟩ => ⟨S1024x8192, .f32⟩
  | .hbm, ⟨8, _⟩ => ⟨S18432x1024, .i8⟩
  | .hbm, ⟨9, _⟩ => ⟨S18432x8, .f32⟩
  | .hbm, ⟨10, _⟩ => ⟨S12x1536x8192, .bf16⟩
  | .hbm, ⟨11, _⟩ => ⟨S12x1536x1024, .i8⟩
  | .hbm, ⟨12, _⟩ => ⟨S12x1536x8, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x8192, .i8⟩
  | .local _ .vmem, ⟨5, _⟩ => ⟨S512x1024, .bf16⟩
  | .local _ .vmem, ⟨6, _⟩ => ⟨S512x1024, .bf16⟩
  | .local _ .vmem, ⟨7, _⟩ => ⟨S512x1024, .i8⟩
  | .local _ .vmem, ⟨8, _⟩ => ⟨S512x1024, .i8⟩
  | .local _ .vmem, ⟨9, _⟩ => ⟨S512x8, .f32⟩
  | .local _ .vmem, ⟨10, _⟩ => ⟨S512x8, .f32⟩
  | .local _ .vmem, ⟨11, _⟩ => ⟨S512x1024, .bf16⟩
  | .local _ .vmem, ⟨12, _⟩ => ⟨S1024x512, .bf16⟩
  | .local _ .vmem, ⟨13, _⟩ => ⟨S8x1024x1024, .f32⟩
  | .local _ .smem, ⟨0, _⟩ => ⟨S1, .f32⟩
  | _, _ => ⟨S12x1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![36, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  ![0, v5.toNat]
def k0_cond2 (i : grid0.Coords) : BitVec 1 :=
  let arg0 : BitVec 32 := BitVec.ofNat 32 (i 0).val
  let c0_i32_11 : BitVec 32 := 0#32
  let v19 : BitVec 1 := Scalar.cmpi .eq arg0 c0_i32_11
  let v20 : BitVec 32 := Scalar.extui v19
  let c0_i32_12 : BitVec 32 := 0#32
  let v21 : BitVec 1 := Scalar.cmpi .ne v20 c0_i32_12
  v21

def k0_off2 (i : grid0.Coords) : Fin 3 → Nat :=
  let arg1 : BitVec 32 := BitVec.ofNat 32 (i 1).val
  let v33 : Index := Scalar.indexCast arg1
  let c0_18 : Index := 0#32
  let c0_19 : Index := 0#32
  ![v33.toNat, 0, 0]
def k0_cond3 (i : grid0.Coords) : BitVec 1 :=
  let arg0 : BitVec 32 := BitVec.ofNat 32 (i 0).val
  let c0_i32_13 : BitVec 32 := 0#32
  let v22 : BitVec 1 := Scalar.cmpi .sgt arg0 c0_i32_13
  let v23 : BitVec 32 := Scalar.extui v22
  let c0_i32_14 : BitVec 32 := 0#32
  let v24 : BitVec 1 := Scalar.cmpi .ne v23 c0_i32_14
  v24

def k0_off3 (i : grid0.Coords) : Fin 3 → Nat :=
  let arg1 : BitVec 32 := BitVec.ofNat 32 (i 1).val
  let v33 : Index := Scalar.indexCast arg1
  let c0_18 : Index := 0#32
  let c0_19 : Index := 0#32
  ![v33.toNat, 0, 0]
def k0_cond4 (i : grid0.Coords) : BitVec 1 :=
  let arg0 : BitVec 32 := BitVec.ofNat 32 (i 0).val
  let c35_i32 : BitVec 32 := 35#32
  let v25 : BitVec 1 := Scalar.cmpi .eq arg0 c35_i32
  let v26 : BitVec 32 := Scalar.extui v25
  let c0_i32_15 : BitVec 32 := 0#32
  let v27 : BitVec 1 := Scalar.cmpi .ne v26 c0_i32_15
  v27

def k0_off4 (i : grid0.Coords) : Fin 2 → Nat :=
  let c0_i32_19 : BitVec 32 := 0#32
  let arg1 : BitVec 32 := BitVec.ofNat 32 (i 1).val
  let c1024_i32_18 : BitVec 32 := 1024#32
  let v33 : BitVec 32 := Scalar.muli arg1 c1024_i32_18
  ![0, v33.toNat]
def k0_off5 (i : grid0.Coords) : Fin 3 → Nat :=
  let arg1 : BitVec 32 := BitVec.ofNat 32 (i 1).val
  let c0_i32_20 : BitVec 32 := 0#32
  let c0_i32_21 : BitVec 32 := 0#32
  ![arg1.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x8192 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S12x1536x8192 : Shape := ⟨3, ![12, 1536, 8192]⟩
abbrev S12x1536x1024 : Shape := ⟨3, ![12, 1536, 1024]⟩
abbrev S1024x8192 : Shape := ⟨2, ![1024, 8192]⟩
abbrev S1 : Shape := ⟨1, ![1]⟩
abbrev S18432x8192 : Shape := ⟨2, ![18432, 8192]⟩
abbrev S18432x1024 : Shape := ⟨2, ![18432, 1024]⟩
abbrev S18432x8 : Shape := ⟨2, ![18432, 8]⟩
abbrev S18432x8x128 : Shape := ⟨3, ![18432, 8, 128]⟩
abbrev S18432x8x1 : Shape := ⟨3, ![18432, 8, 1]⟩
abbrev S1x1 : Shape := ⟨2, ![1, 1]⟩
abbrev S12x1536x8 : Shape := ⟨3, ![12, 1536, 8]⟩

abbrev nBuf : Space → Nat
  | .hbm => 13
  | .vmem => 8
  | .smem => 0
  | _ => 0

abbrev bufTy : (tb : Table) → Fin (tcTables nBuf tb) → BufTy
  | .hbm, ⟨0, _⟩ => ⟨S12x1536x8192, .bf16⟩
  | .hbm, ⟨1, _⟩ => ⟨S12x1536x1024, .bf16⟩
  | .hbm, ⟨2, _⟩ => ⟨S1024x8192, .i8⟩
  | .hbm, ⟨3, _⟩ => ⟨S1, .f32⟩
  | .hbm, ⟨4, _⟩ => ⟨S18432x8192, .bf16⟩
  | .hbm, ⟨5, _⟩ => ⟨S18432x1024, .bf16⟩
  | .hbm, ⟨6, _⟩ => ⟨S18432x8192, .bf16⟩
  | .hbm, ⟨7, _⟩ => ⟨S1024x8192, .f32⟩
  | .hbm, ⟨8, _⟩ => ⟨S18432x1024, .i8⟩
  | .hbm, ⟨9, _⟩ => ⟨S18432x8, .f32⟩
  | .hbm, ⟨10, _⟩ => ⟨S12x1536x8192, .bf16⟩
  | .hbm, ⟨11, _⟩ => ⟨S12x1536x1024, .i8⟩
  | .hbm, ⟨12, _⟩ => ⟨S12x1536x8, .f32⟩
  | .local _ .vmem, ⟨0, _⟩ => ⟨S18432x8192, .bf16⟩
  | .local _ .vmem, ⟨1, _⟩ => ⟨S18432x1024, .bf16⟩
  | .local _ .vmem, ⟨2, _⟩ => ⟨S1024x8192, .i8⟩
  | .local _ .vmem, ⟨3, _⟩ => ⟨S1, .f32⟩
  | .local _ .vmem, ⟨4, _⟩ => ⟨S18432x8192, .bf16⟩
  | .local _ .vmem, ⟨5, _⟩ => ⟨S1024x8192, .f32⟩
  | .local _ .vmem, ⟨6, _⟩ => ⟨S18432x1024, .i8⟩
  | .local _ .vmem, ⟨7, _⟩ => ⟨S18432x8, .f32⟩
  | _, _ => ⟨S12x1536x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S18432x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S18432x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S18432x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S18432x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18432x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KProg.lean ====
/-
  Hand-written, untrusted. The kernel's body at a grid point as four programs run one after another: at a token block's
  first point, quantise the block (`quantProg`); the input gradient's block (`dxProg`); the weight gradient's block, stored
  or added to its accumulator (`midProg`); at the last token block, start the copy of the finished accumulator
  (`issueProg`); at the last point, wait for the eight copies (`drainProg`). `body_eq` says that the printed body is
  these, in this order.
-/
module

public import proofs.«01_k».proof.Proof.Gen.Kernel.Skeleton
public import Idealize.ShloMosaic.Lib.Tactic

@[expose] public section

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- Quantise the token block's eight groups of 128 columns: the codes, the scales and the dequantised block; then keep the
    block transposed. -/
def quantProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let ⟨v64, v67, v69, v70⟩ : Σ' (v64 : FVec F S512x128 .f32) (v67 : FVec F S512x1 .f32) (v69 : IVec S512x1 1), FVec F S512x1 .f32 ← k0_part1 i arg2 harg2 arg3 harg3 arg4 harg4 arg5 harg5 arg6 harg6 arg7 harg7 arg8 harg8 arg9 harg9 arg10 harg10 arg11 harg11 arg12 harg12 arg13
  let ⟨v102, v109, v110⟩ : Σ' (v102 : FVec F S512x1 .f32) (v109 : FVec F S512x128 .f32), IVec S512x128 8 ← k0_part2 i arg2 harg2 arg3 harg3 arg4 harg4 arg5 harg5 arg6 harg6 arg7 harg7 arg8 harg8 arg9 harg9 arg10 harg10 arg11 harg11 arg12 harg12 arg13 v64 v67 v69 v70
  let v145 : FVec F S512x128 .bf16 ← k0_part3 i arg2 harg2 arg3 harg3 arg4 harg4 arg5 harg5 arg6 harg6 arg7 harg7 arg8 harg8 arg9 harg9 arg10 harg10 arg11 harg11 arg12 harg12 arg13 v102 v109 v110
  let ⟨v180, v183, cst_82⟩ : Σ' (v180 : FVec F S512x128 .f32) (v183 : FVec F S512x1 .f32), F .f32 ← k0_part4 i arg2 harg2 arg3 harg3 arg4 harg4 arg5 harg5 arg6 harg6 arg7 harg7 arg8 harg8 arg9 harg9 arg10 harg10 arg11 harg11 arg12 harg12 arg13 v145
  let ⟨v218, v221, cst_98, v222⟩ : Σ' (v218 : FVec F S512x1 .f32) (v221 : FVec F S512x128 .f32) (cst_98 : F .f32), FVec F S512x128 .f32 ← k0_part5 i arg2 harg2 arg3 harg3 arg4 harg4 arg5 harg5 arg6 harg6 arg7 harg7 arg8 harg8 arg9 harg9 arg10 harg10 arg11 harg11 arg12 harg12 arg13 v180 v183 cst_82
  let ⟨v258, v259⟩ : Σ' (v258 : FVec F S512x128 .bf16), FVec F S512x1 .bf16 ← k0_part6 i arg2 harg2 arg3 harg3 arg4 harg4 arg5 harg5 arg6 harg6 arg7 harg7 arg8 harg8 arg9 harg9 arg10 harg10 arg11 harg11 arg12 harg12 arg13 v218 v221 cst_98 v222
  let v262 : Vec F S512x128 .bf16 ← Prog.lift (.load arg10 (Rect.unit (s := S512x1024) ![0, 896] S512x128.size inb_S512x1024_S512x128_0_896).toLoadRect (View.loadsAt_vmem h_S512x128))
  Prog.lift (.store arg10 (Rect.unit (s := S512x1024) ![0, 896] S512x128.size inb_S512x1024_S512x128_0_896) (k0_pay49 v258 v259) Finset.univ (View.stores_vmem h_S512x128 (harg10.storeExact_slice rfl _ packedbf16_S512x1024_S512x128_0_896) (fun _ => rfl)) (.inl rfl))
  let v265 : Vec F S512x1024 .bf16 ← Prog.lift (.load arg4 (Rect.unit (s := S512x1024) ![0, 0] S512x1024.size inb_S512x1024_S512x1024_0_0).toLoadRect (View.loadsAt_vmem h_S512x1024))
  let v268 : Vec F S1024x512 .bf16 ← Prog.lift (.load arg11 (Rect.unit (s := S1024x512) ![0, 0] S1024x512.size inb_S1024x512_S1024x512_0_0).toLoadRect (View.loadsAt_vmem h_S1024x512))
  Prog.lift (.store arg11 (Rect.unit (s := S1024x512) ![0, 0] S1024x512.size inb_S1024x512_S1024x512_0_0) (k0_pay50 v265) Finset.univ (View.stores_vmem h_S1024x512 (harg11.storeExact_slice rfl _ packedbf16_S1024x512_S1024x512_0_0) (fun _ => rfl)) (.inl rfl))
  pure ⟨⟩

/-- The input gradient's block: the dequantised block times a block of the codes of the weight, scaled and rounded. -/
def dxProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let v6 : Vec F S1024x1024 .i8 ← Prog.lift (.load arg5 (Rect.unit (s := S1024x8192) (k0_off1 i) S1024x1024.size (k0_off1_inb i)).toLoadRect (View.loadsAt_vmem h_S1024x1024))
  let v8 : Vec F S512x1024 .bf16 ← Prog.lift (.load arg10 (Rect.unit (s := S512x1024) ![0, 0] S512x1024.size inb_S512x1024_S512x1024_0_0).toLoadRect (View.loadsAt_vmem h_S512x1024))
  let v10 : Elt F .f32 ← smemLoad arg2 (Rect.unit (s := S1) ![0] S1.size inb_S1_S1_0) numel1_S1 rfl
  let v14 : Vec F S512x1024 .bf16 ← Prog.lift (.load arg6 (Rect.unit (s := S512x1024) ![0, 0] S512x1024.size inb_S512x1024_S512x1024_0_0).toLoadRect (View.loadsAt_vmem h_S512x1024))
  Prog.lift (.store arg6 (Rect.unit (s := S512x1024) ![0, 0] S512x1024.size inb_S512x1024_S512x1024_0_0) (k0_pay51 v6 v8 v10) Finset.univ (View.stores_vmem h_S512x1024 (harg6.storeExact_slice rfl _ packedbf16_S512x1024_S512x1024_0_0) (fun _ => rfl)) (.inl rfl))
  pure ⟨⟩

/-- The weight gradient's block of this token block: stored to its accumulator at the first token block, added to it later. -/
def midProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let v15 : Vec F S1024x512 .bf16 ← Prog.lift (.load arg11 (Rect.unit (s := S1024x512) ![0, 0] S1024x512.size inb_S1024x512_S1024x512_0_0).toLoadRect (View.loadsAt_vmem h_S1024x512))
  let v16 : Vec F S512x1024 .bf16 ← Prog.lift (.load arg3 (Rect.unit (s := S512x1024) ![0, 0] S512x1024.size inb_S512x1024_S512x1024_0_0).toLoadRect (View.loadsAt_vmem h_S512x1024))
  if k0_h2 : k0_cond2 i = 1#1 then do
    let v34 : Vec F S1x1024x1024 .f32 ← Prog.lift (.load arg12 (Rect.unit (s := S8x1024x1024) (k0_off2 i) S1x1024x1024.size (k0_off2_inb i k0_h2)).toLoadRect (View.loadsAt_vmem h_S1x1024x1024))
    Prog.lift (.store arg12 (Rect.unit (s := S8x1024x1024) (k0_off2 i) S1x1024x1024.size (k0_off2_inb i k0_h2)) (k0_pay53 v15 v16) Finset.univ (View.stores_vmem_bits_univ h_S1x1024x1024 rfl) (.inl rfl))
    pure ⟨⟩
  else do
    pure ⟨⟩
  if k0_h3 : k0_cond3 i = 1#1 then do
    let v34 : Vec F S1x1024x1024 .f32 ← Prog.lift (.load arg12 (Rect.unit (s := S8x1024x1024) (k0_off3 i) S1x1024x1024.size (k0_off3_inb i k0_h3)).toLoadRect (View.loadsAt_vmem h_S1x1024x1024))
    let v38 : Vec F S1x1024x1024 .f32 ← Prog.lift (.load arg12 (Rect.unit (s := S8x1024x1024) (k0_off3 i) S1x1024x1024.size (k0_off3_inb i k0_h3)).toLoadRect (View.loadsAt_vmem h_S1x1024x1024))
    Prog.lift (.store arg12 (Rect.unit (s := S8x1024x1024) (k0_off3 i) S1x1024x1024.size (k0_off3_inb i k0_h3)) (k0_pay54 v15 v16 v34) Finset.univ (View.stores_vmem_bits_univ h_S1x1024x1024 rfl) (.inl rfl))
    pure ⟨⟩
  else do
    pure ⟨⟩
  pure ⟨⟩

/-- At the last token block, the copy of the finished accumulator to the result is started. -/
def issueProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  if k0_h4 : k0_cond4 i = 1#1 then do
    let v34 : Memref sig .tc .hbm S1024x1024 .f32 := arg7.slice (Rect.unit (s := S1024x8192) (k0_off4 i) S1024x1024.size (k0_off4_inb i k0_h4)) (fun _ => rfl)
    let v35 : Memref sig .tc .vmem S1x1024x1024 .f32 := arg12.slice (Rect.unit (s := S8x1024x1024) (k0_off5 i) S1x1024x1024.size (k0_off5_inb i k0_h4)) (fun _ => rfl)
    let v36 : Memref sig .tc .vmem S1024x1024 .f32 := v35.squeeze S1024x1024 squeezes_S1x1024x1024_S1024x1024
    Prog.lift (.enqueueDma v36 (.here v34) (.dma arg13.sem) ((View.wordExact_bits rfl).reshape _ _) (View.wordExact_bits rfl) ⟨Or.inl rfl, trivial⟩)
    pure ⟨⟩
  else do
    pure ⟨⟩
  pure ⟨⟩

/-- At the last point, the eight copies are waited for. -/
def drainProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let arg0 : BitVec 32 := BitVec.ofNat 32 (i 0).val
  let arg1 : BitVec 32 := BitVec.ofNat 32 (i 1).val
  let v28 : BitVec 1 := Scalar.cmpi .eq arg0 35#32
  let v29 : BitVec 1 := Scalar.cmpi .eq arg1 7#32
  let v30 : BitVec 1 := Scalar.andi v28 v29
  let v31 : BitVec 32 := Scalar.extui v30
  let v32 : BitVec 1 := Scalar.cmpi .ne v31 0#32
  if k0_h5 : v32 = 1#1 then do
    k0_part7 i arg2 harg2 arg3 harg3 arg4 harg4 arg5 harg5 arg6 harg6 arg7 harg7 arg8 harg8 arg9 harg9 arg10 harg10 arg11 harg11 arg12 harg12 arg13
    let v52 : Memref sig .tc .vmem S1x1024x1024 .f32 := arg12.slice (Rect.unit (s := S8x1024x1024) ![6, 0, 0] S1x1024x1024.size inb_S8x1024x1024_S1x1024x1024_6_0_0) (fun _ => rfl)
    let v53 : Memref sig .tc .vmem S1024x1024 .f32 := v52.squeeze S1024x1024 squeezes_S1x1024x1024_S1024x1024
    let v51 : Memref sig .tc .hbm S1024x1024 .f32 := arg7.slice (Rect.unit (s := S1024x8192) ![0, 6144] S1024x1024.size inb_S1024x8192_S1024x1024_0_6144) (fun _ => rfl)
    Prog.lift (.waitDma2 arg13.sem v53 v51 ((View.wordExact_bits rfl).reshape _ _) (View.wordExact_bits rfl))
    let v54 : Memref sig .tc .hbm S1024x1024 .f32 := arg7.slice (Rect.unit (s := S1024x8192) ![0, 7168] S1024x1024.size inb_S1024x8192_S1024x1024_0_7168) (fun _ => rfl)
    let v55 : Memref sig .tc .vmem S1x1024x1024 .f32 := arg12.slice (Rect.unit (s := S8x1024x1024) ![7, 0, 0] S1x1024x1024.size inb_S8x1024x1024_S1x1024x1024_7_0_0) (fun _ => rfl)
    let v56 : Memref sig .tc .vmem S1024x1024 .f32 := v55.squeeze S1024x1024 squeezes_S1x1024x1024_S1024x1024
    Prog.lift (.waitDma2 arg13.sem v56 v54 ((View.wordExact_bits rfl).reshape _ _) (View.wordExact_bits rfl))
    pure ⟨⟩
  else do
    pure ⟨⟩
  pure ⟨⟩

/-- The printed body is the five programs, one after another. -/
theorem body_eq (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    cc0_switchback_bwd (F := F) i arg2 harg2 arg3 harg3 arg4 harg4 arg5 harg5 arg6 harg6 arg7 harg7 arg8 harg8 arg9 harg9 arg10 harg10 arg11 harg11 arg12 harg12 arg13
      = (do
          (if k0_cond1 i = 1#1 then quantProg i arg2 harg2 arg3 harg3 arg4 harg4 arg5 harg5 arg6 harg6 arg7 harg7 arg8 harg8 arg9 harg9 arg10 harg10 arg11 harg11 arg12 harg12 arg13 else pure ⟨⟩)
          dxProg i arg2 harg2 arg3 harg3 arg4 harg4 arg5 harg5 arg6 harg6 arg7 harg7 arg8 harg8 arg9 harg9 arg10 harg10 arg11 harg11 arg12 harg12 arg13
          midProg i arg2 harg2 arg3 harg3 arg4 harg4 arg5 harg5 arg6 harg6 arg7 harg7 arg8 harg8 arg9 harg9 arg10 harg10 arg11 harg11 arg12 harg12 arg13
          issueProg i arg2 harg2 arg3 harg3 arg4 harg4 arg5 harg5 arg6 harg6 arg7 harg7 arg8 harg8 arg9 harg9 arg10 harg10 arg11 harg11 arg12 harg12 arg13
          drainProg i arg2 harg2 arg3 harg3 arg4 harg4 arg5 harg5 arg6 harg6 arg7 harg7 arg8 harg8 arg9 harg9 arg10 harg10 arg11 harg11 arg12 harg12 arg13) := by
  rw [cc0_switchback_bwd_eq_skeleton]
  unfold cc0_switchback_bwd_skel
  rw [k0_part8_eq_skeleton]
  unfold k0_part8_skel quantProg dxProg midProg issueProg drainProg
  by_cases h1 : k0_cond1 i = 1#1 <;> by_cases h2 : k0_cond2 i = 1#1 <;> by_cases h3 : k0_cond3 i = 1#1
    <;> by_cases h4 : k0_cond4 i = 1#1 <;>
  simp only [h1, h2, h3, h4, dite_true, dite_false, if_true, if_false, bind_assoc, pure_bind]

end Cert.Kernel.Hand

end
-- ==== Proof.KMid.lean ====
/-
  Hand-written, untrusted. What the two matrix products of a grid point store: the input gradient's block
  (`dx_spec`) and the accumulator's slab at the first token block (`mid_first`) and at a later one (`mid_next`).
-/
module

public import proofs.«01_k».proof.Proof.KProg
public import proofs.«01_k».proof.Proof.Gen.Kernel.Launch
public import Idealize.ShloMosaic.Lib.Pipeline.FrameBody
public import Idealize.ShloMosaic.Lib.Batch
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

theorem inb_slab (j : Fin 8) : ∀ a, (![j.val, 0, 0] : Fin 3 → Nat) a + S1x1024x1024.size a ≤ S8x1024x1024.size a := by
  revert j; decide
theorem inb_col (j : Fin 8) : ∀ a, (![0, 1024 * j.val] : Fin 2 → Nat) a + S1024x1024.size a ≤ S1024x8192.size a := by
  revert j; decide

/-- Slab `j` of the accumulator, its unit axis kept. -/
def slab (M : Memref sig .tc .vmem S8x1024x1024 .f32) (j : Fin 8) : Memref sig .tc .vmem S1x1024x1024 .f32 :=
  M.slice (Rect.unit (s := S8x1024x1024) ![j.val, 0, 0] S1x1024x1024.size (inb_slab j)) (fun _ => rfl)

/-- The block of 1024 columns of the weight's codes that belongs to grid column `i 1`. -/
def wcols (w : Vec F S1024x8192 .i8) (j : Fin 8) : Vec F S1024x1024 .i8 :=
  View.ld w (Rect.unit (s := S1024x8192) ![0, 1024 * j.val] S1024x1024.size (inb_col j))

/-- A store's elements at slab `j`'s offsets, however spelt, are the slab's. -/
theorem access_sub (M : Memref sig .tc .vmem S8x1024x1024 .f32) (j : Fin 8) {off : Fin 3 → Nat} (h : off = ![j.val, 0, 0])
    (inb : ∀ a, off a + S1x1024x1024.size a ≤ S8x1024x1024.size a) :
    (M.access (Rect.unit (s := S8x1024x1024) off S1x1024x1024.size inb)).set ⊆ (slab M j).view.set := by
  subst h; exact subset_rfl

/-- A load's elements at slab `j`'s offsets, however spelt, are the slab's. -/
theorem setOn_sub (M : Memref sig .tc .vmem S8x1024x1024 .f32) (j : Fin 8) {off : Fin 3 → Nat} (h : off = ![j.val, 0, 0])
    (inb : ∀ a, off a + S1x1024x1024.size a ≤ S8x1024x1024.size a) :
    M.view.setOn (Rect.unit (s := S8x1024x1024) off S1x1024x1024.size inb).toLoadRect.set ⊆ (slab M j).view.set := by
  subst h; exact (View.set_slice M.view _).ge

/-- A load at slab `j`'s offsets, however spelt, reads the slab. -/
theorem readAt_slab (M : Memref sig .tc .vmem S8x1024x1024 .f32) (j : Fin 8) {off : Fin 3 → Nat} (h : off = ![j.val, 0, 0])
    (inb : ∀ a, off a + S1x1024x1024.size a ≤ S8x1024x1024.size a) (f : M.view.ty.Contents (Elt F)) :
    M.view.readAt (Elt F) (Rect.unit (s := S8x1024x1024) off S1x1024x1024.size inb).toLoadRect f = (slab M j).view.read (Elt F) f := by
  subst h; rfl

set_option maxHeartbeats 4000000 in
theorem dx_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (w : Vec F S1024x8192 .i8) (d : Vec F S512x1024 .bf16) (ws : Vec F S1 .f32) (K : PUnit → sProp 𝕄) :
    iprop(owns (c : Thread nD τ) arg2 fullShare ws ∗ owns (c : Thread nD τ) arg5 fullShare w ∗ owns (c : Thread nD τ) arg10 fullShare d
        ∗ (∃ x, owns (c : Thread nD τ) arg6 fullShare x)
        ∗ (iprop(owns (c : Thread nD τ) arg2 fullShare ws ∗ owns (c : Thread nD τ) arg5 fullShare w ∗ owns (c : Thread nD τ) arg10 fullShare d
            ∗ owns (c : Thread nD τ) arg6 fullShare (k0_pay51 (wcols w (i 1)) d (ws (fun a => ⟨0, by revert a; decide⟩)))) -∗ K ⟨⟩))
      ⊢ wp frame (wpE (defs₀ (F := F)) Variants.none c none) Set.univ
          (dxProg i arg2 harg2 arg3 harg3 arg4 harg4 arg5 harg5 arg6 harg6 arg7 harg7 arg8 harg8 arg9 harg9 arg10 harg10 arg11 harg11 arg12 harg12 arg13) K := by
  unfold dxProg owns
  iintro ⟨⟨%f2, %e2, H2⟩, ⟨%f5, %e5, H5⟩, ⟨%f10, %e10, H10⟩, ⟨%x6, %f6, %e6, H6⟩, Hk⟩
  sl_exec
  sl_step
  iapply Hk
  isplitl [H2]; · iexists _; isplitr; swap; · iexact H2
                  ipureintro; exact e2
  isplitl [H5]; · iexists _; isplitr; swap; · iexact H5
                  ipureintro; exact e5
  isplitl [H10]; · iexists _; isplitr; swap; · iexact H10
                   ipureintro; exact e10
  iexists _; isplitr; swap; · iexact H6
  ipureintro
  unfold dx_spec.sl.r
  rw [View.read_writes_full, View.readAt_unit _ _ _ (k0_off1_eq i) (inb_col (i 1)), View.readAt_full, e5, e10]
  rw [← e2]
  exact congrArg (k0_pay51 _ d) (congrFun (View.readAt_full arg2.view f2 inb_S1_S1_0) _)

set_option maxHeartbeats 4000000 in
theorem mid_first (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h2 : k0_cond2 i = 1#1) (h3 : ¬ k0_cond3 i = 1#1) (x : Vec F S512x1024 .bf16) (t : Vec F S1024x512 .bf16) (K : PUnit → sProp 𝕄) :
    iprop(owns (c : Thread nD τ) arg3 fullShare x ∗ owns (c : Thread nD τ) arg11 fullShare t
        ∗ (∃ a, owns (c : Thread nD τ) (slab arg12 (i 1)) fullShare a)
        ∗ (iprop(owns (c : Thread nD τ) arg3 fullShare x ∗ owns (c : Thread nD τ) arg11 fullShare t
            ∗ owns (c : Thread nD τ) (slab arg12 (i 1)) fullShare (k0_pay53 t x)) -∗ K ⟨⟩))
      ⊢ wp frame (wpE (defs₀ (F := F)) Variants.none c none) Set.univ
          (midProg i arg2 harg2 arg3 harg3 arg4 harg4 arg5 harg5 arg6 harg6 arg7 harg7 arg8 harg8 arg9 harg9 arg10 harg10 arg11 harg11 arg12 harg12 arg13) K := by
  have hS := access_sub arg12 (i 1) (k0_off2_eq i) (k0_off2_inb i h2)
  unfold midProg owns
  iintro ⟨⟨%f3, %e3, H3⟩, ⟨%f11, %e11, H11⟩, ⟨%xa, %fa, %ea, Ha⟩, Hk⟩
  sl_exec
  sl_step
  iapply Hk
  isplitl [H3]; · iexists _; isplitr; swap; · iexact H3
                  ipureintro; exact e3
  isplitl [H11]; · iexists _; isplitr; swap; · iexact H11
                   ipureintro; exact e11
  iexists _; isplitr; swap; · iexact Ha
  ipureintro
  unfold mid_first.sl.Ha_w1
  rw [View.readAt_full, View.readAt_full, e3, e11]
  exact Memref.read_slice_write arg12 (k0_off2_inb i h2) (k0_off2_eq i) (inb_slab (i 1)) fa _

set_option maxHeartbeats 4000000 in
theorem mid_next (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h2 : ¬ k0_cond2 i = 1#1) (h3 : k0_cond3 i = 1#1) (x : Vec F S512x1024 .bf16) (t : Vec F S1024x512 .bf16) (a : Vec F S1x1024x1024 .f32) (K : PUnit → sProp 𝕄) :
    iprop(owns (c : Thread nD τ) arg3 fullShare x ∗ owns (c : Thread nD τ) arg11 fullShare t
        ∗ owns (c : Thread nD τ) (slab arg12 (i 1)) fullShare a
        ∗ (iprop(owns (c : Thread nD τ) arg3 fullShare x ∗ owns (c : Thread nD τ) arg11 fullShare t
            ∗ owns (c : Thread nD τ) (slab arg12 (i 1)) fullShare (k0_pay54 t x a)) -∗ K ⟨⟩))
      ⊢ wp frame (wpE (defs₀ (F := F)) Variants.none c none) Set.univ
          (midProg i arg2 harg2 arg3 harg3 arg4 harg4 arg5 harg5 arg6 harg6 arg7 harg7 arg8 harg8 arg9 harg9 arg10 harg10 arg11 harg11 arg12 harg12 arg13) K := by
  have hS := access_sub arg12 (i 1) (k0_off3_eq i) (k0_off3_inb i h3)
  have hL := setOn_sub arg12 (i 1) (k0_off3_eq i) (k0_off3_inb i h3)
  unfold midProg owns
  iintro ⟨⟨%f3, %e3, H3⟩, ⟨%f11, %e11, H11⟩, ⟨%fa, %ea, Ha⟩, Hk⟩
  sl_exec
  sl_step
  iapply Hk
  isplitl [H3]; · iexists _; isplitr; swap; · iexact H3
                  ipureintro; exact e3
  isplitl [H11]; · iexists _; isplitr; swap; · iexact H11
                   ipureintro; exact e11
  iexists _; isplitr; swap; · iexact Ha
  ipureintro
  unfold mid_next.sl.Ha_w1 mid_next.sl.v34
  rw [View.readAt_full, View.readAt_full, e3, e11]

  rw [← ea]
  refine (Memref.read_slice_write arg12 (k0_off3_inb i h3) (k0_off3_eq i) (inb_slab (i 1)) fa _).trans (congrArg (k0_pay54 t x) ?_)
  exact readAt_slab arg12 (i 1) (k0_off3_eq i) (k0_off3_inb i h3) fa
end Cert.Kernel.Hand

end
-- ==== Proof.KIssue.lean ====
/-
  Hand-written, untrusted. The copies of the finished accumulator to the weight gradient's array: eight copies on one
  semaphore, started one a point at the last token block (`issue_spec`) and all waited for at the last point
  (`drain_spec`).
-/
module

public import proofs.«01_k».proof.Proof.KMid

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Column block `j` of the weight gradient's array: its columns 1024·j to 1024·j + 1023. -/
def colM (M : Memref sig .tc .hbm S1024x8192 .f32) (j : Fin 8) : Memref sig .tc .hbm S1024x1024 .f32 :=
  M.slice (Rect.unit (s := S1024x8192) ![0, 1024 * j.val] S1024x1024.size (inb_col j)) (fun _ => rfl)

/-- A slab without its unit axis. -/
def sq (a : Vec F S1x1024x1024 .f32) : Vec F S1024x1024 .f32 :=
  fun y => a (Shape.reshapeEquiv squeezes_S1x1024x1024_S1024x1024.numel_eq y)

/-- What copy `j` delivers: the column block at the slab's contents, and the slab back. -/
def deliv (c : Dev nD) (M7 : Memref sig .tc .hbm S1024x8192 .f32) (M12 : Memref sig .tc .vmem S8x1024x1024 .f32)
    (A : Fin 8 → Vec F S1x1024x1024 .f32) (j : Fin 8) : sProp 𝕄 :=
  iprop(owns (c : Thread nD τ) (colM M7 j) fullShare (sq (A j)) ∗ owns (c : Thread nD τ) (slab M12 j) fullShare (A j))

instance deliv_storable (c : Dev nD) (M7 : Memref sig .tc .hbm S1024x8192 .f32) (M12 : Memref sig .tc .vmem S8x1024x1024 .f32)
    (A : Fin 8 → Vec F S1x1024x1024 .f32) (j : Fin 8) : Storable (upEmb : UEmb _ 𝕄) (deliv c M7 M12 A j) := by
  unfold deliv; infer_instance

/-- One copy's units on its semaphore. -/
abbrev copyN (M7 : Memref sig .tc .hbm S1024x8192 .f32) (s : DmaSem sig) : ℕ := (colM M7 0).view.amount (SemLoc.dma (sig := sig) s)

/-- The eight copies on semaphore `s`, the first `k` started and `u` units waited for. -/
abbrev copies (c : Dev nD) (M7 : Memref sig .tc .hbm S1024x8192 .f32) (M12 : Memref sig .tc .vmem S8x1024x1024 .f32) (s : DmaSem sig)
    (A : Fin 8 → Vec F S1x1024x1024 .f32) (k u : ℕ) : sProp 𝕄 :=
  Transfers.Batch (countersEmb (U := Pipeline.UD sig nD τ)) (c : Thread nD τ) (.dma s) () (copyN M7 s) (deliv c M7 M12 A) k u

/-- No copy is started yet: the semaphore at zero is the eight copies with none started. -/
theorem copies_alloc (c : Dev nD) (M7 : Memref sig .tc .hbm S1024x8192 .f32) (M12 : Memref sig .tc .vmem S8x1024x1024 .f32) (s : DmaSem sig)
    (A : Fin 8 → Vec F S1x1024x1024 .f32) :
    (semVal ((c : Thread nD τ), SemLoc.dma s) 0 : sProp 𝕄) ⊢ |={Set.univ}=> copies c M7 M12 s A 0 0 :=
  Transfers.batch_alloc' (Lvl := ℕ) (countersEmb (U := Pipeline.UD sig nD τ)) (c : Thread nD τ) () (copyN M7 s) (deliv c M7 M12 A)
    (sm := SemLoc.dma s) (E := Set.univ)

/-- A value handed on to the rest of a program. -/
theorem ret_bind' {E : Type → Type} {α β : Type} (a : α) (k : α → Prog E β) : (Prog.ret a).bind k = k a := rfl

set_option maxHeartbeats 2000000 in
/-- One copy's start, its source and destination however spelt. -/
theorem issue_step (c : Dev nD) (M7 : Memref sig .tc .hbm S1024x8192 .f32) (M12 : Memref sig .tc .vmem S8x1024x1024 .f32) (s : DmaSem sig)
    (A : Fin 8 → Vec F S1x1024x1024 .f32) (j : Fin 8) {o4 : Fin 2 → Nat} (h4 : o4 = ![0, 1024 * j.val])
    (inb4 : ∀ a, o4 a + S1024x1024.size a ≤ S1024x8192.size a) {o5 : Fin 3 → Nat} (h5 : o5 = ![j.val, 0, 0])
    (inb5 : ∀ a, o5 a + S1x1024x1024.size a ≤ S8x1024x1024.size a) (hsrc hdst hsem)
    (k : PUnit → Prog (TpuEff nD τ sig (Elt F) Λ₀ .tc) PUnit) (Q : PUnit → sProp 𝕄) :
    iprop(owns (c : Thread nD τ) (slab M12 j) fullShare (A j) ∗ (∃ x, owns (c : Thread nD τ) (colM M7 j) fullShare x)
        ∗ copies c M7 M12 s A j.val 0
        ∗ (copies c M7 M12 s A (j.val + 1) 0 -∗ wp frame (wpE (defs₀ (F := F)) Variants.none c none) Set.univ (k ⟨⟩) Q))
      ⊢ wp frame (wpE (defs₀ (F := F)) Variants.none c none) Set.univ
          (.op (.enqueueDma ((M12.slice (Rect.unit (s := S8x1024x1024) o5 S1x1024x1024.size inb5) (fun _ => rfl)).squeeze S1024x1024 squeezes_S1x1024x1024_S1024x1024)
            (.here (M7.slice (Rect.unit (s := S1024x8192) o4 S1024x1024.size inb4) (fun _ => rfl))) (.dma s) hsrc hdst hsem) k) Q := by
  subst h4; subst h5
  unfold owns
  iintro ⟨⟨%fs, %es, Hs⟩, ⟨%x, %fd, %ed, Hd⟩, HB, Hk⟩
  have hset : ((slab M12 j).squeeze S1024x1024 squeezes_S1x1024x1024_S1024x1024).view.set = (slab M12 j).view.set := View.set_reshape _ _
  have hread : ∀ f, ((slab M12 j).squeeze S1024x1024 squeezes_S1x1024x1024_S1024x1024).view.read (Elt F) f = sq ((slab M12 j).view.read (Elt F) f) := fun _ => rfl
  iapply (Transfers.wp_dmaBatch (countersEmb (U := Pipeline.UD sig nD τ)) Variants.none (c : Thread nD τ) none
    (src := (slab M12 j).squeeze S1024x1024 squeezes_S1x1024x1024_S1024x1024) (dst := colM M7 j) () (copyN M7 s) rfl subset_rfl
    (D := deliv c M7 M12 A) (j := j.val) (u := 0) (q := fullShare) (fs := fs) (fd := fd) j.isLt (Nat.zero_le _) ?_) $$ [Hs Hd HB]
  rotate_left
  · rw [hset]
    isplitl [Hs]; · iexact Hs
    isplitl [Hd]; · iexact Hd
    iexact HB
  · iexact Hk
  · rw [hset]
    unfold deliv owns
    iintro ⟨H1, H2⟩
    isplitl [H1]
    · iexists _; isplitr; swap; · iexact H1
      ipureintro
      rw [View.read_write_univ]
      exact congrArg sq es
    · iexists _; isplitr; swap; · iexact H2
      ipureintro; exact es

set_option maxHeartbeats 2000000 in
/-- At the last token block the point starts its column's copy. -/
theorem issue_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h4 : k0_cond4 i = 1#1) (A : Fin 8 → Vec F S1x1024x1024 .f32) (K : PUnit → sProp 𝕄) :
    iprop(owns (c : Thread nD τ) (slab arg12 (i 1)) fullShare (A (i 1)) ∗ (∃ x, owns (c : Thread nD τ) (colM arg7 (i 1)) fullShare x)
        ∗ copies c arg7 arg12 arg13.sem A (i 1).val 0
        ∗ (copies c arg7 arg12 arg13.sem A ((i 1).val + 1) 0 -∗ K ⟨⟩))
      ⊢ wp frame (wpE (defs₀ (F := F)) Variants.none c none) Set.univ
          (issueProg i arg2 harg2 arg3 harg3 arg4 harg4 arg5 harg5 arg6 harg6 arg7 harg7 arg8 harg8 arg9 harg9 arg10 harg10 arg11 harg11 arg12 harg12 arg13) K := by
  unfold issueProg
  rw [dif_pos h4]
  iintro ⟨Hs, Hd, HB, Hk⟩
  iapply (issue_step c arg7 arg12 arg13.sem A (i 1) (k0_off4_eq i) (k0_off4_inb i h4) (k0_off5_eq i) (k0_off5_inb i h4) _ _ _ _ _)
  isplitl [Hs]; · iexact Hs
  isplitl [Hd]; · iexact Hd
  isplitl [HB]; · iexact HB
  iintro HB
  simp only [ret_bind']
  sl_step
  iapply Hk
  iexact HB

/-- Before the last token block nothing is started. -/
theorem issue_none (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h4 : ¬ k0_cond4 i = 1#1) (K : PUnit → sProp 𝕄) :
    K ⟨⟩ ⊢ wp frame (wpE (defs₀ (F := F)) Variants.none c none) Set.univ
          (issueProg i arg2 harg2 arg3 harg3 arg4 harg4 arg5 harg5 arg6 harg6 arg7 harg7 arg8 harg8 arg9 harg9 arg10 harg10 arg11 harg11 arg12 harg12 arg13) K := by
  unfold issueProg
  rw [dif_neg h4]
  iintro Hk
  sl_exec
  sl_step
  iexact Hk

/-- The last point's test, as printed. -/
abbrev drainCond (i : grid0.Coords) : BitVec 1 :=
  Scalar.cmpi .ne (Scalar.extui (Scalar.andi (Scalar.cmpi .eq (BitVec.ofNat 32 (i 0).val) 35#32) (Scalar.cmpi .eq (BitVec.ofNat 32 (i 1).val) 7#32)) : BitVec 32) 0#32

/-- Before the last point nothing is waited for. -/
theorem drain_none (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h5 : ¬ drainCond i = 1#1) (K : PUnit → sProp 𝕄) :
    K ⟨⟩ ⊢ wp frame (wpE (defs₀ (F := F)) Variants.none c none) Set.univ
          (drainProg i arg2 harg2 arg3 harg3 arg4 harg4 arg5 harg5 arg6 harg6 arg7 harg7 arg8 harg8 arg9 harg9 arg10 harg10 arg11 harg11 arg12 harg12 arg13) K := by
  unfold drainProg
  simp only []
  split
  · rename_i h; exact absurd h h5
  iintro Hk
  sl_exec
  sl_step
  iexact Hk

set_option maxHeartbeats 4000000 in
/-- At the last point the eight copies are waited for: every column block at its slab's contents, every slab back, the
    semaphore at zero. -/
theorem drain_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h5 : drainCond i = 1#1) (hN0 : 0 < copyN arg7 arg13.sem)
    (A : Fin 8 → Vec F S1x1024x1024 .f32) (W : Waits sig Unit) (K : PUnit → sProp 𝕄) :
    iprop(copies c arg7 arg12 arg13.sem A 8 0 ∗ owes (c : Thread nD τ) 0 W
        ∗ (iprop(bigSep Finset.univ (deliv c arg7 arg12 A) ∗ semVal ((c : Thread nD τ), SemLoc.dma arg13.sem) 0
            ∗ ∃ W', owes (c : Thread nD τ) 0 W') -∗ K ⟨⟩))
      ⊢ wp frame (wpE (defs₀ (F := F)) Variants.none c none) Set.univ
          (drainProg i arg2 harg2 arg3 harg3 arg4 harg4 arg5 harg5 arg6 harg6 arg7 harg7 arg8 harg8 arg9 harg9 arg10 harg10 arg11 harg11 arg12 harg12 arg13) K := by
  unfold drainProg
  simp only []
  split
  swap
  · rename_i h; exact absurd h5 h
  rw [k0_part7_eq_skeleton]
  unfold k0_part7_skel
  simp only [bind_assoc, pure_bind]
  iintro ⟨HB, HO, Hk⟩
  iapply (Transfers.wp_waitBatch (countersEmb (U := Pipeline.UD sig nD τ)) Variants.none (c : Thread nD τ) none (srcw := (slab arg12 0).squeeze S1024x1024 squeezes_S1x1024x1024_S1024x1024) (dstw := colM arg7 0) () (N := copyN arg7 arg13.sem) rfl (D := deliv c arg7 arg12 A) (u := 0) (by omega)) $$ [HB HO]
  · isplitl [HB] <;> iassumption
  iintro ⟨HB, HO⟩
  rw [show 0 + copyN arg7 arg13.sem = 1 * copyN arg7 arg13.sem by omega]
  iapply (Transfers.wp_waitBatch (countersEmb (U := Pipeline.UD sig nD τ)) Variants.none (c : Thread nD τ) none (srcw := (slab arg12 1).squeeze S1024x1024 squeezes_S1x1024x1024_S1024x1024) (dstw := colM arg7 1) () (N := copyN arg7 arg13.sem) rfl (D := deliv c arg7 arg12 A) (u := 1 * copyN arg7 arg13.sem) (by omega)) $$ [HB HO]
  · isplitl [HB] <;> iassumption
  iintro ⟨HB, HO⟩
  rw [show 1 * copyN arg7 arg13.sem + copyN arg7 arg13.sem = 2 * copyN arg7 arg13.sem by omega]
  iapply (Transfers.wp_waitBatch (countersEmb (U := Pipeline.UD sig nD τ)) Variants.none (c : Thread nD τ) none (srcw := (slab arg12 2).squeeze S1024x1024 squeezes_S1x1024x1024_S1024x1024) (dstw := colM arg7 2) () (N := copyN arg7 arg13.sem) rfl (D := deliv c arg7 arg12 A) (u := 2 * copyN arg7 arg13.sem) (by omega)) $$ [HB HO]
  · isplitl [HB] <;> iassumption
  iintro ⟨HB, HO⟩
  rw [show 2 * copyN arg7 arg13.sem + copyN arg7 arg13.sem = 3 * copyN arg7 arg13.sem by omega]
  iapply (Transfers.wp_waitBatch (countersEmb (U := Pipeline.UD sig nD τ)) Variants.none (c : Thread nD τ) none (srcw := (slab arg12 3).squeeze S1024x1024 squeezes_S1x1024x1024_S1024x1024) (dstw := colM arg7 3) () (N := copyN arg7 arg13.sem) rfl (D := deliv c arg7 arg12 A) (u := 3 * copyN arg7 arg13.sem) (by omega)) $$ [HB HO]
  · isplitl [HB] <;> iassumption
  iintro ⟨HB, HO⟩
  rw [show 3 * copyN arg7 arg13.sem + copyN arg7 arg13.sem = 4 * copyN arg7 arg13.sem by omega]
  iapply (Transfers.wp_waitBatch (countersEmb (U := Pipeline.UD sig nD τ)) Variants.none (c : Thread nD τ) none (srcw := (slab arg12 4).squeeze S1024x1024 squeezes_S1x1024x1024_S1024x1024) (dstw := colM arg7 4) () (N := copyN arg7 arg13.sem) rfl (D := deliv c arg7 arg12 A) (u := 4 * copyN arg7 arg13.sem) (by omega)) $$ [HB HO]
  · isplitl [HB] <;> iassumption
  iintro ⟨HB, HO⟩
  rw [show 4 * copyN arg7 arg13.sem + copyN arg7 arg13.sem = 5 * copyN arg7 arg13.sem by omega]
  iapply (Transfers.wp_waitBatch (countersEmb (U := Pipeline.UD sig nD τ)) Variants.none (c : Thread nD τ) none (srcw := (slab arg12 5).squeeze S1024x1024 squeezes_S1x1024x1024_S1024x1024) (dstw := colM arg7 5) () (N := copyN arg7 arg13.sem) rfl (D := deliv c arg7 arg12 A) (u := 5 * copyN arg7 arg13.sem) (by omega)) $$ [HB HO]
  · isplitl [HB] <;> iassumption
  iintro ⟨HB, HO⟩
  rw [show 5 * copyN arg7 arg13.sem + copyN arg7 arg13.sem = 6 * copyN arg7 arg13.sem by omega]
  iapply (Transfers.wp_waitBatch (countersEmb (U := Pipeline.UD sig nD τ)) Variants.none (c : Thread nD τ) none (srcw := (slab arg12 6).squeeze S1024x1024 squeezes_S1x1024x1024_S1024x1024) (dstw := colM arg7 6) () (N := copyN arg7 arg13.sem) rfl (D := deliv c arg7 arg12 A) (u := 6 * copyN arg7 arg13.sem) (by omega)) $$ [HB HO]
  · isplitl [HB] <;> iassumption
  iintro ⟨HB, HO⟩
  rw [show 6 * copyN arg7 arg13.sem + copyN arg7 arg13.sem = 7 * copyN arg7 arg13.sem by omega]
  iapply (Transfers.wp_waitBatchLast (countersEmb (U := Pipeline.UD sig nD τ)) Variants.none (c : Thread nD τ) none (srcw := (slab arg12 7).squeeze S1024x1024 squeezes_S1x1024x1024_S1024x1024) (dstw := colM arg7 7) () (N := copyN arg7 arg13.sem) rfl hN0 (D := deliv c arg7 arg12 A) (u := 7 * copyN arg7 arg13.sem) (by omega)) $$ [HB HO]
  · isplitl [HB] <;> iassumption
  iintro ⟨HD, Hv, HO⟩
  simp only [ret_bind']
  sl_step
  iapply Hk
  isplitl [HD]; · iexact HD
  isplitl [Hv]; · iexact Hv
  iexists _; iexact HO

end Cert.Kernel.Hand

end
-- ==== Proof.KTiles.lean ====
/-
  Hand-written, untrusted. A token block's eight groups of 128 columns, and what the quantisation of the block leaves:
  its codes, its scales and the dequantised block, each group's from that group alone.
-/
module

public import proofs.«01_k».proof.Proof.KMid
public import Idealize.ShloMosaic.Lib.ValueIdxCore
public import Idealize.ShloMosaic.Lib.ValueIdxCoords
public import Idealize.ShloMosaic.Lib.Writes
public import Idealize.ShloMosaic.Lib.Pipeline.ValueKit.Geometry

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

open Idealize.ShloMosaic.ValueIdx (ix2)

/-- A 512×1024 block from its eight groups of 128 columns. -/
def tiles {α : Type} (W : Fin 8 → S512x128.Idx → α) : S512x1024.Idx → α := fun q =>
  W ⟨(q 1).val / 128, by have := (q 1).isLt; simp at this; omega⟩
    (ix2 (n0 := 512) (n1 := 128) (q 0) ⟨(q 1).val % 128, Nat.mod_lt _ (by decide)⟩)

/-- A 512×8 block from its eight columns. -/
def cols {α : Type} (W : Fin 8 → S512x1.Idx → α) : S512x8.Idx → α := fun q =>
  W (q 1) (ix2 (n0 := 512) (n1 := 1) (q 0) 0)

theorem inb_grp (j : Fin 8) : ∀ a, (![0, 128 * j.val] : Fin 2 → Nat) a + S512x128.size a ≤ S512x1024.size a := by
  revert j; decide

/-- Group `j` of a block: its columns 128·j to 128·j + 127. -/
def grp (y : Vec F S512x1024 .bf16) (j : Fin 8) : Vec F S512x128 .bf16 :=
  View.ld y (Rect.unit (s := S512x1024) ![0, 128 * j.val] S512x128.size (inb_grp j))

/-- A load at group `j`'s columns, however spelt, reads the group. -/
theorem readAt_grp {κ : Kind} {sp : Space} (v : View sig κ sp S512x1024 .bf16) (j : Fin 8) {off : Fin 2 → Nat} (h : off = ![0, 128 * j.val])
    (inb : ∀ a, off a + S512x128.size a ≤ S512x1024.size a) (f : v.ty.Contents (Elt F)) {y : Vec F S512x1024 .bf16} (hy : v.read (Elt F) f = y) :
    v.readAt (Elt F) (Rect.unit (s := S512x1024) off S512x128.size inb).toLoadRect f = grp y j := by
  subst h; subst hy; rfl

/-- The block's codes. -/
def codesOf (y : Vec F S512x1024 .bf16) : Vec F S512x1024 .i8 := tiles fun j => k0_pay4 (grp y j)
/-- The block's scales. -/
def scalesOf (y : Vec F S512x1024 .bf16) : Vec F S512x8 .f32 := cols fun j => k0_pay2 (grp y j)
/-- The dequantised block. -/
def deqOf (y : Vec F S512x1024 .bf16) : Vec F S512x1024 .bf16 := tiles fun j => k0_pay5 (grp y j)

/-- At an index of group `j` the block is the group's function. -/
theorem tiles_at {α : Type} (W : Fin 8 → S512x128.Idx → α) (j : Fin 8) (x : S512x128.Idx) (y : S512x1024.Idx)
    (h0 : (y 0).val = (x 0).val) (h1 : (y 1).val = 128 * j.val + (x 1).val) : W j x = tiles W y := by
  have hx : (x 1).val < 128 := (x 1).isLt
  have hj : j = ⟨(y 1).val / 128, by have := (y 1).isLt; simp at this; omega⟩ := Fin.ext (by simp only; omega)
  have hxx : x = ix2 (n0 := 512) (n1 := 128) (y 0) ⟨(y 1).val % 128, Nat.mod_lt _ (by decide)⟩ := by
    funext a
    match a with
    | ⟨0, _⟩ => exact Fin.ext h0.symm
    | ⟨1, _⟩ => refine Fin.ext ?_; show (x 1).val = _ % 128; omega
  unfold tiles
  rw [← hj, ← hxx]

/-- At an index of column `j` the block is the column's function. -/
theorem cols_at {α : Type} (W : Fin 8 → S512x1.Idx → α) (j : Fin 8) (x : S512x1.Idx) (y : S512x8.Idx)
    (h0 : (y 0).val = (x 0).val) (h1 : (y 1).val = j.val + (x 1).val) : W j x = cols W y := by
  have hx : (x 1).val < 1 := (x 1).isLt
  have hj : j = y 1 := Fin.ext (by omega)
  have hxx : x = ix2 (n0 := 512) (n1 := 1) (y 0) 0 := by
    funext a
    match a with
    | ⟨0, _⟩ => exact Fin.ext h0.symm
    | ⟨1, _⟩ => refine Fin.ext ?_; show (x 1).val = 0; omega
  unfold cols
  rw [← hj, ← hxx]

/-- At an index of group `j`'s box the block is the group's function. -/
theorem tiles_emb {α : Type} (W : Fin 8 → S512x128.Idx → α) (j : Fin 8) {off : Fin 2 → Nat} (h : off = ![0, 128 * j.val])
    (inb : ∀ a, off a + S512x128.size a ≤ S512x1024.size a) (x : S512x128.Idx) :
    W j x = tiles W ((Rect.unit (s := S512x1024) off S512x128.size inb).emb x) := by
  subst h
  exact tiles_at W j x _ ((ValueKit.rect_emb_unit_val _ _ _ _ _).trans (Nat.zero_add _)) (ValueKit.rect_emb_unit_val _ _ _ _ _)

/-- At an index of column `j`'s box the block is the column's function. -/
theorem cols_emb {α : Type} (W : Fin 8 → S512x1.Idx → α) (j : Fin 8) {off : Fin 2 → Nat} (h : off = ![0, j.val])
    (inb : ∀ a, off a + S512x1.size a ≤ S512x8.size a) (x : S512x1.Idx) :
    W j x = cols W ((Rect.unit (s := S512x8) off S512x1.size inb).emb x) := by
  subst h
  exact cols_at W j x _ ((ValueKit.rect_emb_unit_val _ _ _ _ _).trans (Nat.zero_add _)) (ValueKit.rect_emb_unit_val _ _ _ _ _)

/-! Every group's arithmetic is that of the first group. -/

theorem codes_pay1 (v : Vec F S512x128 .bf16) : (k0_pay12 (k0_pay6 v) (k0_pay7 v) (k0_pay8 v) k0_pay9 : Vec F S512x128 .i8) = k0_pay4 v := rfl
theorem codes_pay2 (v : Vec F S512x128 .bf16) : (k0_pay17 v : Vec F S512x128 .i8) = k0_pay4 v := rfl
theorem codes_pay3 (v : Vec F S512x128 .bf16) : (k0_pay22 v : Vec F S512x128 .i8) = k0_pay4 v := rfl
theorem codes_pay4 (v : Vec F S512x128 .bf16) : (k0_pay28 v : Vec F S512x128 .i8) = k0_pay4 v := rfl
theorem codes_pay5 (v : Vec F S512x128 .bf16) : (k0_pay34 (k0_pay30 v) (k0_pay31 v) (Scalar.ofBits .f32 0x00000000#32 : F .f32) : Vec F S512x128 .i8) = k0_pay4 v := rfl
theorem codes_pay6 (v : Vec F S512x128 .bf16) : (k0_pay41 (k0_pay38 v) (Scalar.ofBits .f32 0x42FE0000#32 : F .f32) k0_pay39 : Vec F S512x128 .i8) = k0_pay4 v := rfl
theorem codes_pay7 (v : Vec F S512x128 .bf16) : (k0_pay46 v : Vec F S512x128 .i8) = k0_pay4 v := rfl
theorem scales_pay1 (v : Vec F S512x128 .bf16) : (k0_pay10 (k0_pay7 v) (k0_pay8 v) k0_pay9 : Vec F S512x1 .f32) = k0_pay2 v := rfl
theorem scales_pay2 (v : Vec F S512x128 .bf16) : (k0_pay15 v : Vec F S512x1 .f32) = k0_pay2 v := rfl
theorem scales_pay3 (v : Vec F S512x128 .bf16) : (k0_pay20 v : Vec F S512x1 .f32) = k0_pay2 v := rfl
theorem scales_pay4 (v : Vec F S512x128 .bf16) : (k0_pay26 v : Vec F S512x1 .f32) = k0_pay2 v := rfl
theorem scales_pay5 (v : Vec F S512x128 .bf16) : (k0_pay32 (k0_pay31 v) (Scalar.ofBits .f32 0x00000000#32 : F .f32) : Vec F S512x1 .f32) = k0_pay2 v := rfl
theorem scales_pay6 (v : Vec F S512x128 .bf16) : (k0_pay37 v : Vec F S512x1 .f32) = k0_pay2 v := rfl
theorem scales_pay7 (v : Vec F S512x128 .bf16) : (k0_pay44 v : Vec F S512x1 .f32) = k0_pay2 v := rfl
theorem deq_pay1 (v : Vec F S512x128 .bf16) : (k0_pay13 (k0_pay6 v) (k0_pay7 v) (k0_pay8 v) k0_pay9 : Vec F S512x128 .bf16) = k0_pay5 v := rfl
theorem deq_pay2 (v : Vec F S512x128 .bf16) : (k0_pay18 (k0_pay15 v) (k0_pay16 v) : Vec F S512x128 .bf16) = k0_pay5 v := rfl
theorem deq_pay3 (v : Vec F S512x128 .bf16) : (k0_pay24 (k0_pay23 v) : Vec F S512x128 .bf16) = k0_pay5 v := rfl
theorem deq_pay4 (v : Vec F S512x128 .bf16) : (k0_pay29 v : Vec F S512x128 .bf16) = k0_pay5 v := rfl
theorem deq_pay5 (v : Vec F S512x128 .bf16) : (k0_pay35 (k0_pay30 v) (k0_pay31 v) (Scalar.ofBits .f32 0x00000000#32 : F .f32) : Vec F S512x128 .bf16) = k0_pay5 v := rfl
theorem deq_pay6 (v : Vec F S512x128 .bf16) : (k0_pay42 (k0_pay37 v) (k0_pay38 v) (Scalar.ofBits .f32 0x42FE0000#32 : F .f32) k0_pay39 : Vec F S512x128 .bf16) = k0_pay5 v := rfl
theorem deq_pay7 (v : Vec F S512x128 .bf16) : (k0_pay49 (k0_pay47 v) (k0_pay48 v) : Vec F S512x128 .bf16) = k0_pay5 v := rfl

/-- Eight stores, one per group of 128 columns, leave the block they make up. -/
theorem read_tiles {κ : Kind} {sp : Space} {e : EltTy} (v : View sig κ sp S512x1024 e) (f : v.ty.Contents (Elt F)) (W : Fin 8 → S512x128.Idx → Elt F e)
    {w0 w1 w2 w3 w4 w5 w6 w7 : S512x128.Idx → Elt F e} (h0 : w0 = W 0) (h1 : w1 = W 1) (h2 : w2 = W 2) (h3 : w3 = W 3) (h4 : w4 = W 4) (h5 : w5 = W 5) (h6 : w6 = W 6) (h7 : w7 = W 7) :
    v.read (Elt F) (v.writes (Elt F) f [
        ⟨Rect.unit (s := S512x1024) ![0, 896] S512x128.size inb_S512x1024_S512x128_0_896, w7⟩,
        ⟨Rect.unit (s := S512x1024) ![0, 768] S512x128.size inb_S512x1024_S512x128_0_768, w6⟩,
        ⟨Rect.unit (s := S512x1024) ![0, 640] S512x128.size inb_S512x1024_S512x128_0_640, w5⟩,
        ⟨Rect.unit (s := S512x1024) ![0, 512] S512x128.size inb_S512x1024_S512x128_0_512, w4⟩,
        ⟨Rect.unit (s := S512x1024) ![0, 384] S512x128.size inb_S512x1024_S512x128_0_384, w3⟩,
        ⟨Rect.unit (s := S512x1024) ![0, 256] S512x128.size inb_S512x1024_S512x128_0_256, w2⟩,
        ⟨Rect.unit (s := S512x1024) ![0, 128] S512x128.size inb_S512x1024_S512x128_0_128, w1⟩,
        ⟨Rect.unit (s := S512x1024) ![0, 0] S512x128.size inb_S512x1024_S512x128_0_0, w0⟩]) = tiles W := by
  subst h0 h1 h2 h3 h4 h5 h6 h7
  funext q
  refine View.read_writes_apply_of_pieces v f (tiles W) _ ?_ q ?_
  · intro p hp
    simp only [List.mem_cons, List.not_mem_nil, _root_.or_false] at hp
    rcases hp with rfl | rfl | rfl | rfl | rfl | rfl | rfl | rfl
    · exact fun x => tiles_emb W 7 rfl inb_S512x1024_S512x128_0_896 x
    · exact fun x => tiles_emb W 6 rfl inb_S512x1024_S512x128_0_768 x
    · exact fun x => tiles_emb W 5 rfl inb_S512x1024_S512x128_0_640 x
    · exact fun x => tiles_emb W 4 rfl inb_S512x1024_S512x128_0_512 x
    · exact fun x => tiles_emb W 3 rfl inb_S512x1024_S512x128_0_384 x
    · exact fun x => tiles_emb W 2 rfl inb_S512x1024_S512x128_0_256 x
    · exact fun x => tiles_emb W 1 rfl inb_S512x1024_S512x128_0_128 x
    · exact fun x => tiles_emb W 0 rfl inb_S512x1024_S512x128_0_0 x
  · have hq : (q 1).val < 1024 := (q 1).isLt
    have h0 : (q 0).val < 512 := (q 0).isLt
    simp only [List.exists_mem_cons_iff, List.not_mem_nil, _root_.false_and, exists_false, _root_.or_false, Rect.mem_set_unit]
    have key : ∀ k, k ≤ (q 1).val → (q 1).val < k + 128 → ∀ a : Fin 2, (![0, k] : Fin 2 → Nat) a ≤ (q a).val ∧ (q a).val < (![0, k] : Fin 2 → Nat) a + S512x128.size a := by
      intro k hk hk' a
      match a with
      | ⟨0, _⟩ => exact ⟨Nat.zero_le _, h0.trans_le (Nat.le_add_left _ _)⟩
      | ⟨1, _⟩ => exact ⟨hk, hk'⟩
    rcases (by omega : (896 ≤ (q 1).val ∧ (q 1).val < 1024) ∨ (768 ≤ (q 1).val ∧ (q 1).val < 896) ∨ (640 ≤ (q 1).val ∧ (q 1).val < 768) ∨ (512 ≤ (q 1).val ∧ (q 1).val < 640) ∨ (384 ≤ (q 1).val ∧ (q 1).val < 512) ∨ (256 ≤ (q 1).val ∧ (q 1).val < 384) ∨ (128 ≤ (q 1).val ∧ (q 1).val < 256) ∨ (0 ≤ (q 1).val ∧ (q 1).val < 128)) with ⟨h, h'⟩ | ⟨h, h'⟩ | ⟨h, h'⟩ | ⟨h, h'⟩ | ⟨h, h'⟩ | ⟨h, h'⟩ | ⟨h, h'⟩ | ⟨h, h'⟩
    · exact .inl (key _ h h')
    · exact .inr (.inl (key _ h h'))
    · exact .inr (.inr (.inl (key _ h h')))
    · exact .inr (.inr (.inr (.inl (key _ h h'))))
    · exact .inr (.inr (.inr (.inr (.inl (key _ h h')))))
    · exact .inr (.inr (.inr (.inr (.inr (.inl (key _ h h'))))))
    · exact .inr (.inr (.inr (.inr (.inr (.inr (.inl (key _ h h')))))))
    · exact .inr (.inr (.inr (.inr (.inr (.inr (.inr (key _ h h')))))))

/-- Eight stores, one per column, leave the block they make up. -/
theorem read_cols {κ : Kind} {sp : Space} {e : EltTy} (v : View sig κ sp S512x8 e) (f : v.ty.Contents (Elt F)) (W : Fin 8 → S512x1.Idx → Elt F e)
    {w0 w1 w2 w3 w4 w5 w6 w7 : S512x1.Idx → Elt F e} (h0 : w0 = W 0) (h1 : w1 = W 1) (h2 : w2 = W 2) (h3 : w3 = W 3) (h4 : w4 = W 4) (h5 : w5 = W 5) (h6 : w6 = W 6) (h7 : w7 = W 7) :
    v.read (Elt F) (v.writes (Elt F) f [
        ⟨Rect.unit (s := S512x8) ![0, 7] S512x1.size inb_S512x8_S512x1_0_7, w7⟩,
        ⟨Rect.unit (s := S512x8) ![0, 6] S512x1.size inb_S512x8_S512x1_0_6, w6⟩,
        ⟨Rect.unit (s := S512x8) ![0, 5] S512x1.size inb_S512x8_S512x1_0_5, w5⟩,
        ⟨Rect.unit (s := S512x8) ![0, 4] S512x1.size inb_S512x8_S512x1_0_4, w4⟩,
        ⟨Rect.unit (s := S512x8) ![0, 3] S512x1.size inb_S512x8_S512x1_0_3, w3⟩,
        ⟨Rect.unit (s := S512x8) ![0, 2] S512x1.size inb_S512x8_S512x1_0_2, w2⟩,
        ⟨Rect.unit (s := S512x8) ![0, 1] S512x1.size inb_S512x8_S512x1_0_1, w1⟩,
        ⟨Rect.unit (s := S512x8) ![0, 0] S512x1.size inb_S512x8_S512x1_0_0, w0⟩]) = cols W := by
  subst h0 h1 h2 h3 h4 h5 h6 h7
  funext q
  refine View.read_writes_apply_of_pieces v f (cols W) _ ?_ q ?_
  · intro p hp
    simp only [List.mem_cons, List.not_mem_nil, _root_.or_false] at hp
    rcases hp with rfl | rfl | rfl | rfl | rfl | rfl | rfl | rfl
    · exact fun x => cols_emb W 7 rfl inb_S512x8_S512x1_0_7 x
    · exact fun x => cols_emb W 6 rfl inb_S512x8_S512x1_0_6 x
    · exact fun x => cols_emb W 5 rfl inb_S512x8_S512x1_0_5 x
    · exact fun x => cols_emb W 4 rfl inb_S512x8_S512x1_0_4 x
    · exact fun x => cols_emb W 3 rfl inb_S512x8_S512x1_0_3 x
    · exact fun x => cols_emb W 2 rfl inb_S512x8_S512x1_0_2 x
    · exact fun x => cols_emb W 1 rfl inb_S512x8_S512x1_0_1 x
    · exact fun x => cols_emb W 0 rfl inb_S512x8_S512x1_0_0 x
  · have hq : (q 1).val < 8 := (q 1).isLt
    have h0 : (q 0).val < 512 := (q 0).isLt
    simp only [List.exists_mem_cons_iff, List.not_mem_nil, _root_.false_and, exists_false, _root_.or_false, Rect.mem_set_unit]
    have key : ∀ k, k ≤ (q 1).val → (q 1).val < k + 1 → ∀ a : Fin 2, (![0, k] : Fin 2 → Nat) a ≤ (q a).val ∧ (q a).val < (![0, k] : Fin 2 → Nat) a + S512x1.size a := by
      intro k hk hk' a
      match a with
      | ⟨0, _⟩ => exact ⟨Nat.zero_le _, h0.trans_le (Nat.le_add_left _ _)⟩
      | ⟨1, _⟩ => exact ⟨hk, hk'⟩
    rcases (by omega : (7 ≤ (q 1).val ∧ (q 1).val < 8) ∨ (6 ≤ (q 1).val ∧ (q 1).val < 7) ∨ (5 ≤ (q 1).val ∧ (q 1).val < 6) ∨ (4 ≤ (q 1).val ∧ (q 1).val < 5) ∨ (3 ≤ (q 1).val ∧ (q 1).val < 4) ∨ (2 ≤ (q 1).val ∧ (q 1).val < 3) ∨ (1 ≤ (q 1).val ∧ (q 1).val < 2) ∨ (0 ≤ (q 1).val ∧ (q 1).val < 1)) with ⟨h, h'⟩ | ⟨h, h'⟩ | ⟨h, h'⟩ | ⟨h, h'⟩ | ⟨h, h'⟩ | ⟨h, h'⟩ | ⟨h, h'⟩ | ⟨h, h'⟩
    · exact .inl (key _ h h')
    · exact .inr (.inl (key _ h h'))
    · exact .inr (.inr (.inl (key _ h h')))
    · exact .inr (.inr (.inr (.inl (key _ h h'))))
    · exact .inr (.inr (.inr (.inr (.inl (key _ h h')))))
    · exact .inr (.inr (.inr (.inr (.inr (.inl (key _ h h'))))))
    · exact .inr (.inr (.inr (.inr (.inr (.inr (.inl (key _ h h')))))))
    · exact .inr (.inr (.inr (.inr (.inr (.inr (.inr (key _ h h')))))))

end Cert.Kernel.Hand

end
-- ==== Proof.KQuant.lean ====
/-
  Hand-written, untrusted. What the quantisation of a token block stores: `quant_spec`.
-/
module

public import proofs.«01_k».proof.Proof.KTiles

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 1000000 in
/-- The quantisation leaves the block's codes, its scales, the dequantised block, and the block transposed. -/
theorem quant_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_)
    (y : Vec F S512x1024 .bf16) (K : PUnit → sProp 𝕄) :
    iprop(owns (c : Thread nD τ) arg4 fullShare y
        ∗ (∃ x, owns (c : Thread nD τ) arg8 fullShare x) ∗ (∃ x, owns (c : Thread nD τ) arg9 fullShare x)
        ∗ (∃ x, owns (c : Thread nD τ) arg10 fullShare x) ∗ (∃ x, owns (c : Thread nD τ) arg11 fullShare x)
        ∗ (iprop(owns (c : Thread nD τ) arg4 fullShare y ∗ owns (c : Thread nD τ) arg8 fullShare (codesOf y)
            ∗ owns (c : Thread nD τ) arg9 fullShare (scalesOf y) ∗ owns (c : Thread nD τ) arg10 fullShare (deqOf y)
            ∗ owns (c : Thread nD τ) arg11 fullShare (k0_pay50 y)) -∗ K ⟨⟩))
      ⊢ wp frame (wpE (defs₀ (F := F)) Variants.none c none) Set.univ
          (quantProg i arg2 harg2 arg3 harg3 arg4 harg4 arg5 harg5 arg6 harg6 arg7 harg7 arg8 harg8 arg9 harg9 arg10 harg10 arg11 harg11 arg12 harg12 arg13) K := by
  unfold quantProg owns
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨⟨%f4, %e4, H4⟩, ⟨%x8, %f8, %e8, H8⟩, ⟨%x9, %f9, %e9, H9⟩, ⟨%x10, %f10, %e10, H10⟩, ⟨%x11, %f11, %e11, H11⟩, Hk⟩
  sl_exec
  sl_step
  iapply Hk
  isplitl [H4]; · iexists _; isplitr; swap; · iexact H4
                  ipureintro; exact e4
  have g0 : arg4.view.readAt (Elt F) (Rect.unit (s := S512x1024) ![0, 0] S512x128.size inb_S512x1024_S512x128_0_0).toLoadRect f4 = grp y 0 :=
    readAt_grp arg4.view 0 rfl inb_S512x1024_S512x128_0_0 f4 e4
  have g1 : arg4.view.readAt (Elt F) (Rect.unit (s := S512x1024) ![0, 128] S512x128.size inb_S512x1024_S512x128_0_128).toLoadRect f4 = grp y 1 :=
    readAt_grp arg4.view 1 rfl inb_S512x1024_S512x128_0_128 f4 e4
  have g2 : arg4.view.readAt (Elt F) (Rect.unit (s := S512x1024) ![0, 256] S512x128.size inb_S512x1024_S512x128_0_256).toLoadRect f4 = grp y 2 :=
    readAt_grp arg4.view 2 rfl inb_S512x1024_S512x128_0_256 f4 e4
  have g3 : arg4.view.readAt (Elt F) (Rect.unit (s := S512x1024) ![0, 384] S512x128.size inb_S512x1024_S512x128_0_384).toLoadRect f4 = grp y 3 :=
    readAt_grp arg4.view 3 rfl inb_S512x1024_S512x128_0_384 f4 e4
  have g4 : arg4.view.readAt (Elt F) (Rect.unit (s := S512x1024) ![0, 512] S512x128.size inb_S512x1024_S512x128_0_512).toLoadRect f4 = grp y 4 :=
    readAt_grp arg4.view 4 rfl inb_S512x1024_S512x128_0_512 f4 e4
  have g5 : arg4.view.readAt (Elt F) (Rect.unit (s := S512x1024) ![0, 640] S512x128.size inb_S512x1024_S512x128_0_640).toLoadRect f4 = grp y 5 :=
    readAt_grp arg4.view 5 rfl inb_S512x1024_S512x128_0_640 f4 e4
  have g6 : arg4.view.readAt (Elt F) (Rect.unit (s := S512x1024) ![0, 768] S512x128.size inb_S512x1024_S512x128_0_768).toLoadRect f4 = grp y 6 :=
    readAt_grp arg4.view 6 rfl inb_S512x1024_S512x128_0_768 f4 e4
  have g7 : arg4.view.readAt (Elt F) (Rect.unit (s := S512x1024) ![0, 896] S512x128.size inb_S512x1024_S512x128_0_896).toLoadRect f4 = grp y 7 :=
    readAt_grp arg4.view 7 rfl inb_S512x1024_S512x128_0_896 f4 e4
  isplitl [H8]; · iexists _; isplitr; swap; · iexact H8
                  ipureintro
                  refine read_tiles arg8.view f8 (fun j => k0_pay4 (grp y j)) ?_ ?_ ?_ ?_ ?_ ?_ ?_ ?_
                  · rw [g0]
                  · dsimp only; rw [g1]; exact codes_pay1 (grp y 1)
                  · dsimp only; rw [g2]; exact codes_pay2 (grp y 2)
                  · dsimp only; rw [g3]; exact codes_pay3 (grp y 3)
                  · dsimp only; rw [g4]; exact codes_pay4 (grp y 4)
                  · dsimp only; rw [g5]; exact codes_pay5 (grp y 5)
                  · dsimp only; rw [g6]; exact codes_pay6 (grp y 6)
                  · dsimp only; rw [g7]; exact codes_pay7 (grp y 7)
  isplitl [H9]; · iexists _; isplitr; swap; · iexact H9
                  ipureintro
                  refine read_cols arg9.view f9 (fun j => k0_pay2 (grp y j)) ?_ ?_ ?_ ?_ ?_ ?_ ?_ ?_
                  · rw [g0]
                  · dsimp only; rw [g1]; exact scales_pay1 (grp y 1)
                  · dsimp only; rw [g2]; exact scales_pay2 (grp y 2)
                  · dsimp only; rw [g3]; exact scales_pay3 (grp y 3)
                  · dsimp only; rw [g4]; exact scales_pay4 (grp y 4)
                  · dsimp only; rw [g5]; exact scales_pay5 (grp y 5)
                  · dsimp only; rw [g6]; exact scales_pay6 (grp y 6)
                  · dsimp only; rw [g7]; exact scales_pay7 (grp y 7)
  isplitl [H10]; · iexists _; isplitr; swap; · iexact H10
                   ipureintro
                   refine read_tiles arg10.view f10 (fun j => k0_pay5 (grp y j)) ?_ ?_ ?_ ?_ ?_ ?_ ?_ ?_
                   · rw [g0]
                   · dsimp only; rw [g1]; exact deq_pay1 (grp y 1)
                   · dsimp only; rw [g2]; exact deq_pay2 (grp y 2)
                   · dsimp only; rw [g3]; exact deq_pay3 (grp y 3)
                   · dsimp only; rw [g4]; exact deq_pay4 (grp y 4)
                   · dsimp only; rw [g5]; exact deq_pay5 (grp y 5)
                   · dsimp only; rw [g6]; exact deq_pay6 (grp y 6)
                   · dsimp only; rw [g7]; exact deq_pay7 (grp y 7)
  iexists _; isplitr; swap; · iexact H11
  ipureintro
  rw [View.read_writes_full, View.readAt_full, e4]

end Cert.Kernel.Hand

end
-- ==== Proof.KVal.lean ====
/-
  Hand-written, untrusted. The values along the grid, generic in the float type: the blocks of the arguments each point
  reads, the accumulator of a column after each token block, and what the grid point's conditions say.
-/
module

public import proofs.«01_k».proof.Proof.KIssue
public import proofs.«01_k».proof.Proof.KQuant
public import proofs.«01_k».proof.Proof.Gen.Kernel.Frame

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## The grid point's conditions -/

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ 8 ≤ t.val := by decide +kernel
theorem cond4_iff : ∀ t : Fin grid0.N, k0_cond4 (grid0.coords t) = 1#1 ↔ 280 ≤ t.val := by decide +kernel
theorem drain_iff : ∀ t : Fin grid0.N, drainCond (grid0.coords t) = 1#1 ↔ t.val = 287 := by decide +kernel
theorem col_val : ∀ t : Fin grid0.N, (grid0.coords t 1).val = t.val % 8 := by decide +kernel
theorem row_val : ∀ t : Fin grid0.N, (grid0.coords t 0).val = t.val / 8 := by decide +kernel

/-! ## Blocks and accumulators -/

/-- Point number `n` of the grid. -/
def pt (n : ℕ) : Fin cfg0.N := ⟨n % 288, Nat.lt_of_lt_of_eq (Nat.mod_lt _ (by decide)) Gen.N_0.symm⟩

theorem pt_of (t : Fin cfg0.N) (n : ℕ) (h : n = t.val) : pt n = t :=
  Fin.ext (by subst h; exact Nat.mod_eq_of_lt (Nat.lt_of_lt_of_eq t.isLt Gen.N_0))

/-- Token block `b`'s rows of the gradient. -/
def yb (c : Dev nD) (b : ℕ) : Vec F S512x1024 .bf16 := Gen.iblk m c 2 (pt (8 * b))

/-- Token block `b`'s rows of the activations, column block `j`. -/
def xb (c : Dev nD) (b : ℕ) (j : Fin 8) : Vec F S512x1024 .bf16 := Gen.iblk m c 1 (pt (8 * b + j.val))

/-- The accumulator's slab `j` after token blocks 0 to `b`. -/
def accV (c : Dev nD) (j : Fin 8) : ℕ → Vec F S1x1024x1024 .f32
  | 0 => k0_pay53 (k0_pay50 (yb m c 0)) (xb m c 0 j)
  | b + 1 => k0_pay54 (k0_pay50 (yb m c (b + 1))) (xb m c (b + 1) j) (accV c j b)

/-- The accumulator's slabs after the last token block. -/
def accEnd (c : Dev nD) (j : Fin 8) : Vec F S1x1024x1024 .f32 := accV m c j 35

/-- Slab `j` before point `t`: nothing known before its first token block, then the accumulator so far. -/
def slabSt (c : Dev nD) (M : Memref sig .tc .vmem S8x1024x1024 .f32) (t : ℕ) (j : Fin 8) : sProp 𝕄 :=
  match (t + 7 - j.val) / 8 with
  | 0 => iprop(∃ a, owns (c : Thread nD τ) (slab M j) fullShare a)
  | n + 1 => owns (c : Thread nD τ) (slab M j) fullShare (accV m c j n)

/-- Column `j`'s slab and its column block of the weight gradient before point `t`, unless its copy is started. -/
def heldSt (c : Dev nD) (M7 : Memref sig .tc .hbm S1024x8192 .f32) (M12 : Memref sig .tc .vmem S8x1024x1024 .f32) (t : ℕ) (j : Fin 8) : sProp 𝕄 :=
  if 280 + j.val < t then iprop(emp) else iprop(slabSt m c M12 t j ∗ ∃ x, owns (c : Thread nD τ) (colM M7 j) fullShare x)

/-- The semaphore before point `t`: at zero; at the last token block the copies started so far; after the last point at
    zero again with every copy delivered. -/
def semSt (c : Dev nD) (M7 : Memref sig .tc .hbm S1024x8192 .f32) (M12 : Memref sig .tc .vmem S8x1024x1024 .f32) (s : DmaSem sig) (t : ℕ) : sProp 𝕄 :=
  if t ≤ 280 then semVal ((c : Thread nD τ), SemLoc.dma s) 0
  else if t ≤ 287 then copies c M7 M12 s (accEnd m c) (t - 280) 0
  else iprop(bigSep Finset.univ (deliv c M7 M12 (accEnd m c)) ∗ semVal ((c : Thread nD τ), SemLoc.dma s) 0)

/-- The semaphore at point `t` between the start of its copy and the wait. -/
def midSt (c : Dev nD) (M7 : Memref sig .tc .hbm S1024x8192 .f32) (M12 : Memref sig .tc .vmem S8x1024x1024 .f32) (s : DmaSem sig) (t : ℕ) : sProp 𝕄 :=
  if t < 280 then semVal ((c : Thread nD τ), SemLoc.dma s) 0 else copies c M7 M12 s (accEnd m c) (t - 279) 0

/-- The dequantised gradient block held before point `t`: nothing known at the start. -/
def deqSt (c : Dev nD) (M : Memref sig .tc .vmem S512x1024 .bf16) (t : ℕ) : sProp 𝕄 :=
  if t = 0 then iprop(∃ x, owns (c : Thread nD τ) M fullShare x) else owns (c : Thread nD τ) M fullShare (deqOf (yb m c ((t - 1) / 8)))

/-- The transposed gradient block held before point `t`: nothing known at the start. -/
def dytSt (c : Dev nD) (M : Memref sig .tc .vmem S1024x512 .bf16) (t : ℕ) : sProp 𝕄 :=
  if t = 0 then iprop(∃ x, owns (c : Thread nD τ) M fullShare x) else owns (c : Thread nD τ) M fullShare (k0_pay50 (yb m c ((t - 1) / 8)))

theorem deqSt_any (c : Dev nD) (M : Memref sig .tc .vmem S512x1024 .bf16) (t : ℕ) :
    deqSt m c M t ⊢ iprop(∃ x, owns (c : Thread nD τ) M fullShare x) := by
  unfold deqSt
  split
  · exact .rfl
  · iintro H; iexists _; iexact H
theorem dytSt_any (c : Dev nD) (M : Memref sig .tc .vmem S1024x512 .bf16) (t : ℕ) :
    dytSt m c M t ⊢ iprop(∃ x, owns (c : Thread nD τ) M fullShare x) := by
  unfold dytSt
  split
  · exact .rfl
  · iintro H; iexists _; iexact H

section States
variable (c : Dev nD) (M7 : Memref sig .tc .hbm S1024x8192 .f32) (M12 : Memref sig .tc .vmem S8x1024x1024 .f32) (s : DmaSem sig)

theorem slabSt_zero (t : ℕ) (j : Fin 8) (h : t ≤ j.val) :
    slabSt m c M12 t j = iprop(∃ a, owns (c : Thread nD τ) (slab M12 j) fullShare a) := by
  unfold slabSt; rw [show (t + 7 - j.val) / 8 = 0 by omega]
theorem slabSt_succ (t : ℕ) (j : Fin 8) (n : ℕ) (h : (t + 7 - j.val) / 8 = n + 1) :
    slabSt m c M12 t j = owns (c : Thread nD τ) (slab M12 j) fullShare (accV m c j n) := by
  unfold slabSt; rw [h]
theorem heldSt_live (t : ℕ) (j : Fin 8) (h : t ≤ 280 + j.val) :
    heldSt m c M7 M12 t j = iprop(slabSt m c M12 t j ∗ ∃ x, owns (c : Thread nD τ) (colM M7 j) fullShare x) := by
  unfold heldSt; rw [if_neg (by omega)]
theorem heldSt_gone (t : ℕ) (j : Fin 8) (h : 280 + j.val < t) : heldSt m c M7 M12 t j = iprop(emp) := by
  unfold heldSt; rw [if_pos h]
theorem semSt_zero (t : ℕ) (h : t ≤ 280) : semSt m c M7 M12 s t = semVal ((c : Thread nD τ), SemLoc.dma s) 0 := by
  unfold semSt; rw [if_pos h]
theorem semSt_fly (t : ℕ) (h : 280 < t) (h' : t ≤ 287) : semSt m c M7 M12 s t = copies c M7 M12 s (accEnd m c) (t - 280) 0 := by
  unfold semSt; rw [if_neg (by omega), if_pos h']
theorem semSt_end (t : ℕ) (h : t = 288) : semSt m c M7 M12 s t
    = iprop(bigSep Finset.univ (deliv c M7 M12 (accEnd m c)) ∗ semVal ((c : Thread nD τ), SemLoc.dma s) 0) := by
  unfold semSt; rw [if_neg (by omega), if_neg (by omega)]
theorem midSt_zero (t : ℕ) (h : t < 280) : midSt m c M7 M12 s t = semVal ((c : Thread nD τ), SemLoc.dma s) 0 := by
  unfold midSt; rw [if_pos h]
theorem midSt_fly (t k : ℕ) (h : 280 ≤ t) (hk : k = t - 279) : midSt m c M7 M12 s t = copies c M7 M12 s (accEnd m c) k 0 := by
  unfold midSt; rw [if_neg (by omega), hk]

end States

/-- A column's state changes only at its own points. -/
theorem heldSt_next (c : Dev nD) (M7 M12) (t : ℕ) (j : Fin 8) (h : j.val ≠ t % 8) (ht : t < 288) :
    heldSt m c M7 M12 t j = heldSt m c M7 M12 (t + 1) j := by
  unfold heldSt slabSt
  have hj := j.isLt
  rw [show (t + 1 + 7 - j.val) / 8 = (t + 7 - j.val) / 8 by omega]
  by_cases hc : 280 + j.val < t
  · rw [if_pos hc, if_pos (by omega)]
  · rw [if_neg hc, if_neg (by omega)]

end Cert.Kernel.Hand

end
-- ==== Proof.KStage.lean ====
/-
  Hand-written, untrusted. The kernel's five steps at a grid point, each stated over the state the point finds and the
  state it leaves.
-/
module

public import proofs.«01_k».proof.Proof.KVal

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

theorem N288 (t : Fin cfg0.N) : t.val < 288 := Nat.lt_of_lt_of_eq t.isLt Gen.N_0

theorem yb_here (c : Dev nD) (t : Fin cfg0.N) (h : t.val % 8 = 0) : yb m c (t.val / 8) = Gen.iblk m c 2 t := by
  unfold yb; rw [pt_of t _ (by omega)]

theorem xb_here (c : Dev nD) (t : Fin cfg0.N) : xb m c (t.val / 8) (grid0.coords t 1) = Gen.iblk m c 1 t := by
  unfold xb; rw [pt_of t _ (by have := col_val t; omega)]

set_option maxHeartbeats 2000000 in
/-- The gradient block is quantised at the first column point of its token block. -/
theorem quant_first (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t) (h0 : t.val % 8 = 0) (K : PUnit → sProp 𝕄) :
    iprop(owns (c : Thread nD τ) arg4 fullShare (Gen.iblk m c 2 t) ∗ (∃ x, owns (c : Thread nD τ) arg8 fullShare x) ∗ (∃ x, owns (c : Thread nD τ) arg9 fullShare x)
        ∗ deqSt m c arg10 t.val ∗ dytSt m c arg11 t.val
        ∗ (iprop(owns (c : Thread nD τ) arg4 fullShare (Gen.iblk m c 2 t) ∗ owns (c : Thread nD τ) arg8 fullShare (codesOf (yb m c (t.val / 8)))
            ∗ owns (c : Thread nD τ) arg9 fullShare (scalesOf (yb m c (t.val / 8)))
            ∗ owns (c : Thread nD τ) arg10 fullShare (deqOf (yb m c (t.val / 8))) ∗ owns (c : Thread nD τ) arg11 fullShare (k0_pay50 (yb m c (t.val / 8)))) -∗ K ⟨⟩))
      ⊢ wp frame (wpE (defs₀ (F := F)) Variants.none c none) Set.univ
          (if k0_cond1 i = 1#1 then quantProg i arg2 harg2 arg3 harg3 arg4 harg4 arg5 harg5 arg6 harg6 arg7 harg7 arg8 harg8 arg9 harg9 arg10 harg10 arg11 harg11 arg12 harg12 arg13 else pure ⟨⟩) K := by
  subst hi
  rw [if_pos ((cond1_iff t).mpr h0)]
  rw [yb_here m c t h0]
  iintro ⟨H4, H8, H9, Hd, Ht, Hk⟩
  iapply (quant_spec c _ arg2 harg2 arg3 harg3 arg4 harg4 arg5 harg5 arg6 harg6 arg7 harg7 arg8 harg8 arg9 harg9 arg10 harg10 arg11 harg11 arg12 harg12 arg13 (Gen.iblk m c 2 t) K)
  isplitl [H4]; · iexact H4
  isplitl [H8]; · iexact H8
  isplitl [H9]; · iexact H9
  isplitl [Hd]
  · iapply (deqSt_any m c arg10 t.val); iexact Hd
  isplitl [Ht]
  · iapply (dytSt_any m c arg11 t.val); iexact Ht
  iexact Hk
set_option maxHeartbeats 2000000 in
/-- At the other column points the quantised block stays. -/
theorem quant_next (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t) (h0 : ¬ t.val % 8 = 0) (K : PUnit → sProp 𝕄) :
    iprop(deqSt m c arg10 t.val ∗ dytSt m c arg11 t.val
        ∗ (iprop(owns (c : Thread nD τ) arg10 fullShare (deqOf (yb m c (t.val / 8))) ∗ owns (c : Thread nD τ) arg11 fullShare (k0_pay50 (yb m c (t.val / 8)))) -∗ K ⟨⟩))
      ⊢ wp frame (wpE (defs₀ (F := F)) Variants.none c none) Set.univ
          (if k0_cond1 i = 1#1 then quantProg i arg2 harg2 arg3 harg3 arg4 harg4 arg5 harg5 arg6 harg6 arg7 harg7 arg8 harg8 arg9 harg9 arg10 harg10 arg11 harg11 arg12 harg12 arg13 else pure ⟨⟩) K := by
  subst hi
  rw [if_neg (fun h => h0 ((cond1_iff t).mp h))]
  unfold deqSt dytSt
  rw [if_neg (by omega), if_neg (by omega), show (t.val - 1) / 8 = t.val / 8 by omega]
  iintro ⟨Hd, Ht, Hk⟩
  sl_step
  iapply Hk
  isplitl [Hd]; · iexact Hd
  iexact Ht
set_option maxHeartbeats 2000000 in
/-- The point adds its product to its column's accumulator. -/
theorem mid_stage (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t)  (K : PUnit → sProp 𝕄) :
    iprop(owns (c : Thread nD τ) arg3 fullShare (Gen.iblk m c 1 t) ∗ owns (c : Thread nD τ) arg11 fullShare (k0_pay50 (yb m c (t.val / 8)))
        ∗ slabSt m c arg12 t.val (i 1)
        ∗ (iprop(owns (c : Thread nD τ) arg3 fullShare (Gen.iblk m c 1 t) ∗ owns (c : Thread nD τ) arg11 fullShare (k0_pay50 (yb m c (t.val / 8)))
            ∗ owns (c : Thread nD τ) (slab arg12 (i 1)) fullShare (accV m c (i 1) (t.val / 8))) -∗ K ⟨⟩))
      ⊢ wp frame (wpE (defs₀ (F := F)) Variants.none c none) Set.univ
          (midProg i arg2 harg2 arg3 harg3 arg4 harg4 arg5 harg5 arg6 harg6 arg7 harg7 arg8 harg8 arg9 harg9 arg10 harg10 arg11 harg11 arg12 harg12 arg13) K := by
  subst hi
  have hc := col_val t
  have hN := N288 t
  rw [← xb_here m c t]
  by_cases h : t.val < 8
  · rw [slabSt_zero m c arg12 t.val (grid0.coords t 1) (by omega), show t.val / 8 = 0 by omega]
    exact mid_first c _ arg2 harg2 arg3 harg3 arg4 harg4 arg5 harg5 arg6 harg6 arg7 harg7 arg8 harg8 arg9 harg9 arg10 harg10 arg11 harg11 arg12 harg12 arg13 ((cond2_iff t).mpr h) (fun h' => absurd ((cond3_iff t).mp h') (by omega)) (xb m c 0 (grid0.coords t 1)) (k0_pay50 (yb m c 0)) K
  · obtain ⟨b, hb⟩ : ∃ b, t.val / 8 = b + 1 := ⟨t.val / 8 - 1, by omega⟩
    rw [slabSt_succ m c arg12 t.val (grid0.coords t 1) b (by omega), hb]
    exact mid_next c _ arg2 harg2 arg3 harg3 arg4 harg4 arg5 harg5 arg6 harg6 arg7 harg7 arg8 harg8 arg9 harg9 arg10 harg10 arg11 harg11 arg12 harg12 arg13 (fun h' => absurd ((cond2_iff t).mp h') (by omega)) ((cond3_iff t).mpr (by omega)) (xb m c (b + 1) (grid0.coords t 1)) (k0_pay50 (yb m c (b + 1))) (accV m c (grid0.coords t 1) b) K
set_option maxHeartbeats 2000000 in
/-- The point starts its column's copy if its token block is the last; else it keeps the column. -/
theorem issue_stage (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t)  (K : PUnit → sProp 𝕄) :
    iprop(owns (c : Thread nD τ) (slab arg12 (i 1)) fullShare (accV m c (i 1) (t.val / 8)) ∗ (∃ x, owns (c : Thread nD τ) (colM arg7 (i 1)) fullShare x)
        ∗ semSt m c arg7 arg12 arg13.sem t.val
        ∗ (iprop(heldSt m c arg7 arg12 (t.val + 1) (i 1) ∗ midSt m c arg7 arg12 arg13.sem t.val) -∗ K ⟨⟩))
      ⊢ wp frame (wpE (defs₀ (F := F)) Variants.none c none) Set.univ
          (issueProg i arg2 harg2 arg3 harg3 arg4 harg4 arg5 harg5 arg6 harg6 arg7 harg7 arg8 harg8 arg9 harg9 arg10 harg10 arg11 harg11 arg12 harg12 arg13) K := by
  subst hi
  have hc := col_val t
  have hN := N288 t
  by_cases h : t.val < 280
  · rw [semSt_zero m c arg7 arg12 arg13.sem t.val (by omega), midSt_zero m c arg7 arg12 arg13.sem t.val (by omega),
      heldSt_live m c arg7 arg12 (t.val + 1) (grid0.coords t 1) (by omega),
      slabSt_succ m c arg12 (t.val + 1) (grid0.coords t 1) (t.val / 8) (by omega)]
    iintro ⟨Hs, Hd, Hm, Hk⟩
    iapply (issue_none c _ arg2 harg2 arg3 harg3 arg4 harg4 arg5 harg5 arg6 harg6 arg7 harg7 arg8 harg8 arg9 harg9 arg10 harg10 arg11 harg11 arg12 harg12 arg13 (fun h' => absurd ((cond4_iff t).mp h') (by omega)) K)
    iapply Hk
    isplitl [Hs Hd]
    · isplitl [Hs]; · iexact Hs
      iexact Hd
    iexact Hm
  · have hA : accV m c (grid0.coords t 1) (t.val / 8) = accEnd m c (grid0.coords t 1) := by
      unfold accEnd; rw [show t.val / 8 = 35 by omega]
    rw [hA, heldSt_gone m c arg7 arg12 (t.val + 1) (grid0.coords t 1) (by omega),
      midSt_fly m c arg7 arg12 arg13.sem t.val ((grid0.coords t 1).val + 1) (by omega) (by omega)]
    by_cases h' : t.val = 280
    · have hz : (grid0.coords t 1).val = 0 := by omega
      rw [semSt_zero m c arg7 arg12 arg13.sem t.val (by omega)]
      have hal : (semVal ((c : Thread nD τ), SemLoc.dma arg13.sem) 0 : sProp 𝕄)
          ⊢ |={Set.univ}=> copies c arg7 arg12 arg13.sem (accEnd m c) (grid0.coords t 1).val 0 := by
        rw [hz]; exact copies_alloc c arg7 arg12 arg13.sem (accEnd m c)
      iintro ⟨Hs, Hd, Hm, Hk⟩
      imod hal $$ Hm with Hm
      iapply (issue_spec c _ arg2 harg2 arg3 harg3 arg4 harg4 arg5 harg5 arg6 harg6 arg7 harg7 arg8 harg8 arg9 harg9 arg10 harg10 arg11 harg11 arg12 harg12 arg13 ((cond4_iff t).mpr (by omega)) (accEnd m c) K)
      isplitl [Hs]; · iexact Hs
      isplitl [Hd]; · iexact Hd
      isplitl [Hm]; · iexact Hm
      iintro HB
      iapply Hk
      isplitr; · iempintro
      iexact HB
    · have hz : t.val - 280 = (grid0.coords t 1).val := by omega
      rw [semSt_fly m c arg7 arg12 arg13.sem t.val (by omega) (by omega), hz]
      iintro ⟨Hs, Hd, Hm, Hk⟩
      iapply (issue_spec c _ arg2 harg2 arg3 harg3 arg4 harg4 arg5 harg5 arg6 harg6 arg7 harg7 arg8 harg8 arg9 harg9 arg10 harg10 arg11 harg11 arg12 harg12 arg13 ((cond4_iff t).mpr (by omega)) (accEnd m c) K)
      isplitl [Hs]; · iexact Hs
      isplitl [Hd]; · iexact Hd
      isplitl [Hm]; · iexact Hm
      iintro HB
      iapply Hk
      isplitr; · iempintro
      iexact HB
set_option maxHeartbeats 2000000 in
/-- The last point waits for the eight copies. -/
theorem drain_stage (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t) (hN0 : 0 < copyN arg7 arg13.sem) (W : Waits sig Unit) (K : PUnit → sProp 𝕄) :
    iprop(midSt m c arg7 arg12 arg13.sem t.val
        ∗ owes (c : Thread nD τ) 0 W
        ∗ (iprop(semSt m c arg7 arg12 arg13.sem (t.val + 1) ∗ ∃ W', owes (c : Thread nD τ) 0 W') -∗ K ⟨⟩))
      ⊢ wp frame (wpE (defs₀ (F := F)) Variants.none c none) Set.univ
          (drainProg i arg2 harg2 arg3 harg3 arg4 harg4 arg5 harg5 arg6 harg6 arg7 harg7 arg8 harg8 arg9 harg9 arg10 harg10 arg11 harg11 arg12 harg12 arg13) K := by
  subst hi
  have hN := N288 t
  by_cases h : t.val = 287
  · rw [midSt_fly m c arg7 arg12 arg13.sem t.val 8 (by omega) (by omega), semSt_end m c arg7 arg12 arg13.sem (t.val + 1) (by omega)]
    iintro ⟨Hm, HO, Hk⟩
    iapply (drain_spec c _ arg2 harg2 arg3 harg3 arg4 harg4 arg5 harg5 arg6 harg6 arg7 harg7 arg8 harg8 arg9 harg9 arg10 harg10 arg11 harg11 arg12 harg12 arg13 ((drain_iff t).mpr h) hN0 (accEnd m c) W K)
    isplitl [Hm]; · iexact Hm
    isplitl [HO]; · iexact HO
    iintro ⟨HD, HS, HO⟩
    iapply Hk
    isplitl [HD HS]
    · isplitl [HD]; · iexact HD
      iexact HS
    iexact HO
  · have hm : midSt m c arg7 arg12 arg13.sem t.val = semSt m c arg7 arg12 arg13.sem (t.val + 1) := by
      by_cases h' : t.val < 280
      · rw [midSt_zero m c arg7 arg12 arg13.sem t.val h', semSt_zero m c arg7 arg12 arg13.sem (t.val + 1) (by omega)]
      · rw [midSt_fly m c arg7 arg12 arg13.sem t.val (t.val + 1 - 280) (by omega) (by omega), semSt_fly m c arg7 arg12 arg13.sem (t.val + 1) (by omega) (by omega)]
    rw [hm]
    iintro ⟨Hm, HO, Hk⟩
    iapply (drain_none c _ arg2 harg2 arg3 harg3 arg4 harg4 arg5 harg5 arg6 harg6 arg7 harg7 arg8 harg8 arg9 harg9 arg10 harg10 arg11 harg11 arg12 harg12 arg13 (fun h' => h ((drain_iff t).mp h')) K)
    iapply Hk
    isplitl [Hm]; · iexact Hm
    iexists _; iexact HO
end Cert.Kernel.Hand

end
-- ==== Proof.KData.lean ====
/-
  Hand-written, untrusted. The proof data of the kernel's one pipeline: the state between the grid's points, what each
  point leaves in the results' blocks, and the body's obligation at a generic point.
-/
module

public import proofs.«01_k».proof.Proof.KStage
public import Idealize.ShloMosaic.Lib.Pipeline.TableIdle

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## What each point leaves -/

/-- The weight's scale as point `t` finds it. -/
def wsV (c : Dev nD) (t : Fin cfg0.N) : Vec F S1 .f32 := Gen.iblk m c 0 t

/-- Point `t`'s block of the input gradient. -/
def dxV (c : Dev nD) (t : Fin cfg0.N) : Vec F S512x1024 .bf16 :=
  k0_pay51 (wcols (Gen.iblk m c 3 t) (grid0.coords t 1)) (deqOf (yb m c (t.val / 8))) ((wsV m c t) (fun a => ⟨0, by revert a; decide⟩))

/-- The state between the points: the two blocks derived from the gradient, each column's accumulator and column block of
    the weight gradient, the copies' semaphore. -/
def Phi (c : Dev nD) (n : ℕ) : sProp 𝕄 :=
  iprop(deqSt m c (Memref.whole cc0_scratch0) n ∗ dytSt m c (Memref.whole cc0_scratch1) n
    ∗ bigSep Finset.univ (heldSt m c (Memref.whole main_v2_1) (Memref.whole cc0_scratch2) n)
    ∗ semSt m c (Memref.whole main_v2_1) (Memref.whole cc0_scratch2) cc0_scratch3.sem n)

/-- The proof data. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => dxV m c t
    | ⟨5, _⟩ => codesOf (yb m c (t.val / 8))
    | ⟨6, _⟩ => scalesOf (yb m c (t.val / 8))
  Φ t := Phi m c t.val
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = dxV m c t := by dsimp only [dats]
theorem after0_5 (c : Dev nD) (t : Fin cfg0.N) : (dats m 0 c).after 5 t = codesOf (yb m c (t.val / 8)) := by dsimp only [dats]
theorem after0_6 (c : Dev nD) (t : Fin cfg0.N) : (dats m 0 c).after 6 t = scalesOf (yb m c (t.val / 8)) := by dsimp only [dats]

theorem before0_0 (c : Dev nD) (t : Fin cfg0.N) (d) : (dats m 0 c).before 0 t d = Gen.iblk m c 0 t :=
  ((dats m 0 c).before_in_eq_fetched 0 rfl (fun _ => rfl) (fun _ _ _ => rfl) (fun t => by rw [after0_0]; unfold Dat.blockOf Gen.iblk; rw [A_eq]; try rfl) t d).trans
    (by unfold Dat.fetched Dat.blockOf Gen.iblk; rw [A_eq]; try rfl)
theorem before0_1 (c : Dev nD) (t : Fin cfg0.N) (d) : (dats m 0 c).before 1 t d = Gen.iblk m c 1 t :=
  ((dats m 0 c).before_in_eq_fetched 1 rfl (fun _ => rfl) (fun _ _ _ => rfl) (fun t => by rw [after0_1]; unfold Dat.blockOf Gen.iblk; rw [A_eq]; try rfl) t d).trans
    (by unfold Dat.fetched Dat.blockOf Gen.iblk; rw [A_eq]; try rfl)
theorem before0_2 (c : Dev nD) (t : Fin cfg0.N) (d) : (dats m 0 c).before 2 t d = Gen.iblk m c 2 t :=
  ((dats m 0 c).before_in_eq_fetched 2 rfl (fun _ => rfl) (fun _ _ _ => rfl) (fun t => by rw [after0_2]; unfold Dat.blockOf Gen.iblk; rw [A_eq]; try rfl) t d).trans
    (by unfold Dat.fetched Dat.blockOf Gen.iblk; rw [A_eq]; try rfl)
theorem before0_3 (c : Dev nD) (t : Fin cfg0.N) (d) : (dats m 0 c).before 3 t d = Gen.iblk m c 3 t :=
  ((dats m 0 c).before_in_eq_fetched 3 rfl (fun _ => rfl) (fun _ _ _ => rfl) (fun t => by rw [after0_3]; unfold Dat.blockOf Gen.iblk; rw [A_eq]; try rfl) t d).trans
    (by unfold Dat.fetched Dat.blockOf Gen.iblk; rw [A_eq]; try rfl)

/-! ## The quantised blocks, stored at the first column point of a token block and written back at the last -/

theorem idle5 (t : Fin cfg0.N) : cfg0.idle 5 (cfg0.grid.coords t) = !decide (t.val % 8 = 0) := by
  show (!(k0_cond1 (grid0.coords t) == 1#1)) = _
  have h := cond1_iff t
  by_cases h0 : t.val % 8 = 0
  · rw [h.mpr h0, decide_eq_true h0]; rfl
  · rw [decide_eq_false h0, beq_eq_false_iff_ne.mpr (fun e => h0 (h.mp e))]
theorem idle6 (t : Fin cfg0.N) : cfg0.idle 6 (cfg0.grid.coords t) = !decide (t.val % 8 = 0) := idle5 t

theorem flushB5 (t : Fin cfg0.N) : (cfg0.win 5).flush t = decide (t.val % 8 = 7) := by
  by_cases h : t.val % 8 = 7
  · rw [decide_eq_true h]; exact (Gen.flush0_5 t).mpr h
  · rw [decide_eq_false h]; exact Bool.eq_false_iff.mpr (fun e => h ((Gen.flush0_5 t).mp e))

theorem fresh5 (n : ℕ) (h : n ≤ cfg0.N) : cfg0.fresh 5 n = decide (n % 8 = 0) :=
  cfg0.fresh_tab 5 (fun n => decide (n % 8 = 0)) rfl (fun t => by
    rw [flushB5, idle5]
    have h1 : ((t.val + 1) % 8 = 0) ↔ (t.val % 8 = 7) := by omega
    simp only [h1]
    by_cases h : t.val % 8 = 0 <;> simp [h]) n h

/-- Before a point other than its token block's first, the window holds what the first stored. -/
theorem before0_5 (c : Dev nD) (t : Fin cfg0.N) (h : ¬ t.val % 8 = 0) (d) : (dats m 0 c).before 5 t d = codesOf (yb m c (t.val / 8)) := by
  rw [(dats m 0 c).before_out_traj 5 rfl (fun _ _ => rfl) (fun t ht hi hf => by
      rw [after0_5, after0_5]
      rw [fresh5 _ (Nat.le_of_lt t.isLt)] at hf
      have := of_decide_eq_false hf
      rw [show (t.val - 1) / 8 = t.val / 8 by omega]) t.val t rfl d,
    fresh5 _ (Nat.le_of_lt t.isLt), decide_eq_false h, if_neg Bool.false_ne_true, after0_5]
  rw [show (t.val - 1) / 8 = t.val / 8 by omega]

/-- What the body obligation asks of the window after point `t`. -/
def outPost5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem outPost5_first (c : Dev nD) (t : Fin cfg0.N) (h : t.val % 8 = 0) :
    outPost5 m c t = owns (c : Thread nD τ) (st0_5 t) fullShare (codesOf (yb m c (t.val / 8))) := by
  unfold outPost5
  rw [idle5 t, decide_eq_true h, after0_5]
  rfl

theorem outPost5_next (c : Dev nD) (t : Fin cfg0.N) (h : ¬ t.val % 8 = 0) :
    iprop(∃ d, owns (c : Thread nD τ) (st0_5 t) fullShare ((dats m 0 c).before 5 t d)) ⊢ outPost5 m c t := by
  unfold outPost5
  rw [idle5 t, decide_eq_false h, flushB5]
  by_cases h7 : t.val % 8 = 7
  · rw [decide_eq_true h7, after0_5]
    simp only [before0_5 m c t h]
    show iprop(∃ d : (cfg0.win 5).block.Idx → Elt F (cfg0.win 5).elt, owns (c : Thread nD τ) (st0_5 t) fullShare (codesOf (yb m c (t.val / 8)))) ⊢ owns (c : Thread nD τ) (st0_5 t) fullShare (codesOf (yb m c (t.val / 8)))
    iintro ⟨%d, H⟩
    iexact H
  · rw [decide_eq_false h7]
    exact .rfl

theorem flushB6 (t : Fin cfg0.N) : (cfg0.win 6).flush t = decide (t.val % 8 = 7) := by
  by_cases h : t.val % 8 = 7
  · rw [decide_eq_true h]; exact (Gen.flush0_6 t).mpr h
  · rw [decide_eq_false h]; exact Bool.eq_false_iff.mpr (fun e => h ((Gen.flush0_6 t).mp e))

theorem fresh6 (n : ℕ) (h : n ≤ cfg0.N) : cfg0.fresh 6 n = decide (n % 8 = 0) :=
  cfg0.fresh_tab 6 (fun n => decide (n % 8 = 0)) rfl (fun t => by
    rw [flushB6, idle6]
    have h1 : ((t.val + 1) % 8 = 0) ↔ (t.val % 8 = 7) := by omega
    simp only [h1]
    by_cases h : t.val % 8 = 0 <;> simp [h]) n h

/-- Before a point other than its token block's first, the window holds what the first stored. -/
theorem before0_6 (c : Dev nD) (t : Fin cfg0.N) (h : ¬ t.val % 8 = 0) (d) : (dats m 0 c).before 6 t d = scalesOf (yb m c (t.val / 8)) := by
  rw [(dats m 0 c).before_out_traj 6 rfl (fun _ _ => rfl) (fun t ht hi hf => by
      rw [after0_6, after0_6]
      rw [fresh6 _ (Nat.le_of_lt t.isLt)] at hf
      have := of_decide_eq_false hf
      rw [show (t.val - 1) / 8 = t.val / 8 by omega]) t.val t rfl d,
    fresh6 _ (Nat.le_of_lt t.isLt), decide_eq_false h, if_neg Bool.false_ne_true, after0_6]
  rw [show (t.val - 1) / 8 = t.val / 8 by omega]

/-- What the body obligation asks of the window after point `t`. -/
def outPost6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem outPost6_first (c : Dev nD) (t : Fin cfg0.N) (h : t.val % 8 = 0) :
    outPost6 m c t = owns (c : Thread nD τ) (st0_6 t) fullShare (scalesOf (yb m c (t.val / 8))) := by
  unfold outPost6
  rw [idle6 t, decide_eq_true h, after0_6]
  rfl

theorem outPost6_next (c : Dev nD) (t : Fin cfg0.N) (h : ¬ t.val % 8 = 0) :
    iprop(∃ d, owns (c : Thread nD τ) (st0_6 t) fullShare ((dats m 0 c).before 6 t d)) ⊢ outPost6 m c t := by
  unfold outPost6
  rw [idle6 t, decide_eq_false h, flushB6]
  by_cases h7 : t.val % 8 = 7
  · rw [decide_eq_true h7, after0_6]
    simp only [before0_6 m c t h]
    show iprop(∃ d : (cfg0.win 6).block.Idx → Elt F (cfg0.win 6).elt, owns (c : Thread nD τ) (st0_6 t) fullShare (scalesOf (yb m c (t.val / 8)))) ⊢ owns (c : Thread nD τ) (st0_6 t) fullShare (scalesOf (yb m c (t.val / 8)))
    iintro ⟨%d, H⟩
    iexact H
  · rw [decide_eq_false h7]
    exact .rfl

/-! ## The body obligation, at a generic point -/

theorem quant_all (c : Dev nD) (t : Fin cfg0.N) (K : PUnit → sProp 𝕄) :
    iprop(owns (c : Thread nD τ) (st0_2 t) fullShare (Gen.iblk m c 2 t)
        ∗ (∃ d, owns (c : Thread nD τ) (st0_5 t) fullShare ((dats m 0 c).before 5 t d))
        ∗ (∃ d, owns (c : Thread nD τ) (st0_6 t) fullShare ((dats m 0 c).before 6 t d))
        ∗ deqSt m c (Memref.whole cc0_scratch0) t.val ∗ dytSt m c (Memref.whole cc0_scratch1) t.val
        ∗ (iprop(owns (c : Thread nD τ) (st0_2 t) fullShare (Gen.iblk m c 2 t) ∗ outPost5 m c t ∗ outPost6 m c t
            ∗ owns (c : Thread nD τ) (Memref.whole cc0_scratch0) fullShare (deqOf (yb m c (t.val / 8)))
            ∗ owns (c : Thread nD τ) (Memref.whole cc0_scratch1) fullShare (k0_pay50 (yb m c (t.val / 8)))) -∗ K ⟨⟩))
      ⊢ wp frame (wpE (defs₀ (F := F)) Variants.none c none) Set.univ
          (if k0_cond1 (grid0.coords t) = 1#1 then quantProg (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 else pure ⟨⟩) K := by
  by_cases h : t.val % 8 = 0
  · rw [outPost5_first m c t h, outPost6_first m c t h]
    iintro ⟨H2, ⟨%d5, H5⟩, ⟨%d6, H6⟩, Hd, Ht, Hk⟩
    iapply (quant_first m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl h K)
    isplitl [H2]; · iexact H2
    isplitl [H5]; · iexists _; iexact H5
    isplitl [H6]; · iexists _; iexact H6
    isplitl [Hd]; · iexact Hd
    isplitl [Ht]; · iexact Ht
    iexact Hk
  · iintro ⟨H2, H5, H6, Hd, Ht, Hk⟩
    iapply (quant_next m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl h K)
    isplitl [Hd]; · iexact Hd
    isplitl [Ht]; · iexact Ht
    iintro ⟨Hd, Ht⟩
    iapply Hk
    isplitl [H2]; · iexact H2
    isplitl [H5]; · iapply (outPost5_next m c t h); iexact H5
    isplitl [H6]; · iapply (outPost6_next m c t h); iexact H6
    isplitl [Hd]; · iexact Hd
    iexact Ht

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ outPost5 m c t ∗ outPost6 m c t)

theorem copyN_pos : 0 < copyN (Memref.whole main_v2_1) cc0_scratch3.sem := by decide +kernel

theorem held_split (f : Fin 8 → sProp 𝕄) (j : Fin 8) : bigSep Finset.univ f = iprop(f j ∗ bigSep (Finset.univ.erase j) f) :=
  BI.bigSep_erase (Finset.mem_univ j)

theorem Phi_open (c : Dev nD) (t : Fin cfg0.N) : (dats m 0 c).Φ t.castSucc
    = iprop(deqSt m c (Memref.whole cc0_scratch0) t.val ∗ dytSt m c (Memref.whole cc0_scratch1) t.val
      ∗ ((slabSt m c (Memref.whole cc0_scratch2) t.val (grid0.coords t 1) ∗ ∃ x, owns (c : Thread nD τ) (colM (Memref.whole main_v2_1) (grid0.coords t 1)) fullShare x)
        ∗ bigSep (Finset.univ.erase (grid0.coords t 1)) (heldSt m c (Memref.whole main_v2_1) (Memref.whole cc0_scratch2) t.val))
      ∗ semSt m c (Memref.whole main_v2_1) (Memref.whole cc0_scratch2) cc0_scratch3.sem t.val) := by
  have hc := col_val t
  have hN := N288 t
  show Phi m c t.val = _
  unfold Phi
  rw [held_split (heldSt m c (Memref.whole main_v2_1) (Memref.whole cc0_scratch2) t.val) (grid0.coords t 1), heldSt_live m c _ _ _ (grid0.coords t 1) (by omega)]
  rfl

theorem Phi_close (c : Dev nD) (t : Fin cfg0.N) :
    iprop(owns (c : Thread nD τ) (Memref.whole cc0_scratch0) fullShare (deqOf (yb m c (t.val / 8)))
      ∗ owns (c : Thread nD τ) (Memref.whole cc0_scratch1) fullShare (k0_pay50 (yb m c (t.val / 8)))
      ∗ (heldSt m c (Memref.whole main_v2_1) (Memref.whole cc0_scratch2) (t.val + 1) (grid0.coords t 1)
        ∗ bigSep (Finset.univ.erase (grid0.coords t 1)) (heldSt m c (Memref.whole main_v2_1) (Memref.whole cc0_scratch2) t.val))
      ∗ semSt m c (Memref.whole main_v2_1) (Memref.whole cc0_scratch2) cc0_scratch3.sem (t.val + 1)) = (dats m 0 c).Φ t.succ := by
  have hc := col_val t
  have hN := N288 t
  show _ = Phi m c (t.val + 1)
  unfold Phi deqSt dytSt
  have hr : bigSep (Finset.univ.erase (grid0.coords t 1 : Fin 8)) (heldSt m c (Memref.whole main_v2_1) (Memref.whole cc0_scratch2) t.val)
      = bigSep (Finset.univ.erase (grid0.coords t 1 : Fin 8)) (heldSt m c (Memref.whole main_v2_1) (Memref.whole cc0_scratch2) (t.val + 1)) :=
    BI.bigSep_congr fun j hj => heldSt_next m c _ _ t.val j (fun e => Finset.ne_of_mem_erase hj (Fin.ext (e.trans hc.symm))) hN
  rw [held_split (heldSt m c (Memref.whole main_v2_1) (Memref.whole cc0_scratch2) (t.val + 1)) (grid0.coords t 1), if_neg (Nat.succ_ne_zero _), if_neg (Nat.succ_ne_zero _), Nat.add_sub_cancel]
  rw [hr]
  rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_open, ← Phi_close, after0_0, after0_1, after0_2, after0_3, after0_4]
  unfold Dat.owesAt Pipeline.owesWithin
  rw [show (dats m 0 c).owed t.castSucc = 0 from rfl, show (dats m 0 c).owed t.succ = 0 from rfl]
  rw [body_eq]
  simp only [wp_bind]
  iintro ⟨⟨Hd, Ht, ⟨⟨Hs, Hc⟩, Hh⟩, Hm⟩, ⟨%W, -, HW⟩, ⟨%d0, H0⟩, ⟨%d1, H1⟩, ⟨%d2, H2⟩, ⟨%d3, H3⟩, ⟨%d4, H4⟩, H5, H6⟩
  iapply (quant_all m c t)
  isplitl [H2]; · iexact H2
  isplitl [H5]; · iexact H5
  isplitl [H6]; · iexact H6
  isplitl [Hd]; · iexact Hd
  isplitl [Ht]; · iexact Ht
  iintro ⟨H2, H5, H6, Hd, Ht⟩
  iapply (dx_spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 (Gen.iblk m c 3 t) (deqOf (yb m c (t.val / 8))) (Gen.iblk m c 0 t))
  isplitl [H0]; · iexact H0
  isplitl [H3]; · iexact H3
  isplitl [Hd]; · iexact Hd
  isplitl [H4]; · iexists _; iexact H4
  iintro ⟨H0, H3, Hd, H4⟩
  iapply (mid_stage m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl)
  isplitl [H1]; · iexact H1
  isplitl [Ht]; · iexact Ht
  isplitl [Hs]; · iexact Hs
  iintro ⟨H1, Ht, Hs⟩
  iapply (issue_stage m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl)
  isplitl [Hs]; · iexact Hs
  isplitl [Hc]; · iexact Hc
  isplitl [Hm]; · iexact Hm
  iintro ⟨Hj, Hm⟩
  iapply (drain_stage m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl copyN_pos W)
  isplitl [Hm]; · iexact Hm
  isplitl [HW]; · iexact HW
  iintro ⟨Hm, ⟨%W', HW⟩⟩
  isplitl [Hd Ht Hj Hh Hm]
  · isplitl [Hd]; · iexact Hd
    isplitl [Ht]; · iexact Ht
    isplitl [Hj Hh]
    · isplitl [Hj]; · iexact Hj
      iexact Hh
    iexact Hm
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Kernel.Hand

end
-- ==== Proof.KCut.lean ====
/-
  Hand-written, untrusted. The accumulator and the weight gradient's array cut into the eight slabs and the eight column
  blocks the kernel works with, and put together again.
-/
module

public import proofs.«01_k».proof.Proof.KIssue
public import Idealize.ShloMosaic.Lib.ValueIdxCore
public import Idealize.ShloMosaic.Lib.ValueIdxCoords
public import Idealize.ShloMosaic.Lib.ValueLayout

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

open Idealize.ShloMosaic.ValueIdx (ix3)

/-- Slab `j` of the accumulator, as a rectangle. -/
abbrev slabR (j : Fin 8) : Rect S8x1024x1024 := Rect.unit (s := S8x1024x1024) ![j.val, 0, 0] S1x1024x1024.size (inb_slab j)
/-- Column block `j` of the weight gradient, as a rectangle. -/
abbrev colR (j : Fin 8) : Rect S1024x8192 := Rect.unit (s := S1024x8192) ![0, 1024 * j.val] S1024x1024.size (inb_col j)

theorem mem_slabR (j : Fin 8) (i : S8x1024x1024.Idx) : i ∈ (slabR j).set ↔ (i 0).val = j.val := by
  rw [Rect.mem_set_unit]
  have h1 : (i 1).val < 1024 := (i 1).isLt
  have h2 : (i 2).val < 1024 := (i 2).isLt
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 1024; omega
    | ⟨2, _⟩ => show 0 ≤ (i 2).val ∧ (i 2).val < 0 + 1024; omega

theorem mem_colR (j : Fin 8) (i : S1024x8192.Idx) : i ∈ (colR j).set ↔ (i 1).val / 1024 = j.val := by
  rw [Rect.mem_set_unit]
  have h0 : (i 0).val < 1024 := (i 0).isLt
  constructor
  · intro h
    have h0 : 1024 * j.val ≤ (i 1).val ∧ (i 1).val < 1024 * j.val + 1024 := h 1
    omega
  · intro h a
    match a with
    | ⟨0, _⟩ => show 0 ≤ (i 0).val ∧ (i 0).val < 0 + 1024; omega
    | ⟨1, _⟩ => show 1024 * j.val ≤ (i 1).val ∧ (i 1).val < 1024 * j.val + 1024; omega

theorem slabR_disj (j j' : Fin 8) (h : j ≠ j') : Disjoint (slabR j).set (slabR j').set :=
  Finset.disjoint_left.mpr fun i hi hi' => h (Fin.ext (((mem_slabR j i).mp hi).symm.trans ((mem_slabR j' i).mp hi')))
theorem colR_disj (j j' : Fin 8) (h : j ≠ j') : Disjoint (colR j).set (colR j').set :=
  Finset.disjoint_left.mpr fun i hi hi' => h (Fin.ext (((mem_colR j i).mp hi).symm.trans ((mem_colR j' i).mp hi')))
theorem slabR_cover : (Finset.univ : Finset (Fin 8)).biUnion (fun j => (slabR j).set) = Finset.univ :=
  Finset.eq_univ_iff_forall.mpr fun i => Finset.mem_biUnion.mpr ⟨i 0, Finset.mem_univ _, (mem_slabR _ i).mpr rfl⟩
theorem colR_cover : (Finset.univ : Finset (Fin 8)).biUnion (fun j => (colR j).set) = Finset.univ :=
  Finset.eq_univ_iff_forall.mpr fun i => Finset.mem_biUnion.mpr
    ⟨⟨(i 1).val / 1024, by have h : (i 1).val < 8192 := (i 1).isLt; omega⟩, Finset.mem_univ _, (mem_colR _ i).mpr rfl⟩

/-- The weight gradient from the accumulator's eight slabs: column 1024·j + r is slab `j`'s column r. -/
def dwOf (A : Fin 8 → Vec F S1x1024x1024 .f32) : Vec F S1024x8192 .f32 := fun i =>
  A ⟨(i 1).val / 1024, by have h : (i 1).val < 8192 := (i 1).isLt; omega⟩
    (ix3 (n0 := 1) (n1 := 1024) (n2 := 1024) 0 (i 0) ⟨(i 1).val % 1024, Nat.mod_lt _ (by decide)⟩)

/-- The accumulator from its eight slabs. -/
def accOf (A : Fin 8 → Vec F S1x1024x1024 .f32) : Vec F S8x1024x1024 .f32 := fun i =>
  A (i 0) (ix3 (n0 := 1) (n1 := 1024) (n2 := 1024) 0 (i 1) (i 2))

theorem accOf_slab (A : Fin 8 → Vec F S1x1024x1024 .f32) (j : Fin 8) : (fun k => accOf A ((slabR j).emb k)) = A j := by
  funext k
  have h0 : (k 0).val < 1 := (k 0).isLt
  have e0 : ((slabR j).emb k 0) = j := Fin.ext (by show j.val + 1 * (k 0).val = j.val; omega)
  have e : ix3 (n0 := 1) (n1 := 1024) (n2 := 1024) 0 ((slabR j).emb k 1) ((slabR j).emb k 2) = k := by
    funext a
    match a with
    | ⟨0, _⟩ => refine Fin.ext ?_; show 0 = (k 0).val; omega
    | ⟨1, _⟩ => refine Fin.ext ?_; show 0 + 1 * (k 1).val = (k 1).val; omega
    | ⟨2, _⟩ => refine Fin.ext ?_; show 0 + 1 * (k 2).val = (k 2).val; omega
  show A ((slabR j).emb k 0) (ix3 0 ((slabR j).emb k 1) ((slabR j).emb k 2)) = A j k
  rw [e, e0]

/-- The squeezed slab's index `(p, q)` is the slab's `(0, p, q)`. -/
theorem sq_apply (a : Vec F S1x1024x1024 .f32) (k : S1024x1024.Idx) :
    sq a k = a (ix3 (n0 := 1) (n1 := 1024) (n2 := 1024) 0 (k 0) (k 1)) := by
  unfold sq
  conv_lhs => rw [ValueIdx.eq_ix2 k]
  exact congrArg a (ValueIdx.reshapeEquiv_ix2_1ab _ _ _)

theorem dwOf_col (A : Fin 8 → Vec F S1x1024x1024 .f32) (j : Fin 8) : (fun k => dwOf A ((colR j).emb k)) = sq (A j) := by
  funext k
  rw [sq_apply]
  have h1 : (k 1).val < 1024 := (k 1).isLt
  have v1 : ((colR j).emb k 1).val = 1024 * j.val + (k 1).val := by show 1024 * j.val + 1 * (k 1).val = _; omega
  unfold dwOf
  have ej : (⟨((colR j).emb k 1).val / 1024, by have h : ((colR j).emb k 1).val < 8192 := ((colR j).emb k 1).isLt; omega⟩ : Fin 8) = j :=
    Fin.ext (by show ((colR j).emb k 1).val / 1024 = j.val; omega)
  have e : ix3 (n0 := 1) (n1 := 1024) (n2 := 1024) 0 ((colR j).emb k 0) ⟨((colR j).emb k 1).val % 1024, Nat.mod_lt _ (by decide)⟩
      = ix3 (n0 := 1) (n1 := 1024) (n2 := 1024) 0 (k 0) (k 1) := by
    funext a
    match a with
    | ⟨0, _⟩ => rfl
    | ⟨1, _⟩ => refine Fin.ext ?_; show 0 + 1 * (k 0).val = (k 0).val; omega
    | ⟨2, _⟩ => refine Fin.ext ?_; show ((colR j).emb k 1).val % 1024 = (k 1).val; omega
  rw [ej, e]

variable (c : Dev nD)

theorem owns_any {sp : Space} {s : Shape} {e : EltTy} (M : Memref sig .tc sp s e) (x : s.Idx → Elt F e) :
    (owns (c : Thread nD τ) M fullShare x : sProp 𝕄) ⊢ iprop(∃ x, owns (c : Thread nD τ) M fullShare x) := by
  iintro H; iexists _; iexact H

/-- The accumulator at any contents is its eight slabs at any contents. -/
theorem acc_split (f : Buf (Elt F) ((c : Thread nD τ).loc cc0_scratch2)) : ((c : Thread nD τ).loc cc0_scratch2 ↦{fullShare} f : sProp 𝕄)
    ⊢ bigSep Finset.univ fun j => iprop(∃ a, owns (c : Thread nD τ) (slab (Memref.whole cc0_scratch2) j) fullShare a) := by
  rw [← owns_whole (c : Thread nD τ) cc0_scratch2 fullShare f]
  exact (owns_rects (c : Thread nD τ) (Memref.whole cc0_scratch2) fullShare slabR (fun _ _ => rfl) slabR_disj slabR_cover f).trans
    (BI.bigSep_mono fun j _ => owns_any c (slab (Memref.whole cc0_scratch2) j) _)

/-- The eight slabs are the accumulator. -/
theorem acc_join (A : Fin 8 → Vec F S1x1024x1024 .f32) :
    (bigSep Finset.univ fun j => owns (c : Thread nD τ) (slab (Memref.whole cc0_scratch2) j) fullShare (A j) : sProp 𝕄)
      ⊢ (c : Thread nD τ).loc cc0_scratch2 ↦{fullShare} (accOf A) := by
  have h := owns_of_rects (Ix := Unit) (Name := ℕ) (U := Pipeline.UD sig nD τ) (Lvl := ℕ) (c : Thread nD τ) (Memref.whole cc0_scratch2) fullShare slabR (fun _ _ => rfl) slabR_disj slabR_cover (accOf A)
  simp only [accOf_slab] at h
  rw [← owns_whole (c : Thread nD τ) cc0_scratch2 fullShare (accOf A)]
  exact h

/-- The weight gradient's array at any contents is its eight column blocks. -/
theorem dw_split (f : Buf (Elt F) ((c : Thread nD τ).loc main_v2_1)) : ((c : Thread nD τ).loc main_v2_1 ↦{fullShare} f : sProp 𝕄)
    ⊢ bigSep Finset.univ fun j => iprop(∃ x, owns (c : Thread nD τ) (colM (Memref.whole main_v2_1) j) fullShare x) := by
  rw [← owns_whole (c : Thread nD τ) main_v2_1 fullShare f]
  exact (owns_rects (c : Thread nD τ) (Memref.whole main_v2_1) fullShare colR (fun _ _ => rfl) colR_disj colR_cover f).trans
    (BI.bigSep_mono fun j _ => owns_any c (colM (Memref.whole main_v2_1) j) _)

/-- The eight column blocks, each at its slab's contents, are the array at the weight gradient. -/
theorem dw_join (A : Fin 8 → Vec F S1x1024x1024 .f32) :
    (bigSep Finset.univ fun j => owns (c : Thread nD τ) (colM (Memref.whole main_v2_1) j) fullShare (sq (A j)) : sProp 𝕄)
      ⊢ (c : Thread nD τ).loc main_v2_1 ↦{fullShare} (dwOf A) := by
  have h := owns_of_rects (Ix := Unit) (Name := ℕ) (U := Pipeline.UD sig nD τ) (Lvl := ℕ) (c : Thread nD τ) (Memref.whole main_v2_1) fullShare colR (fun _ _ => rfl) colR_disj colR_cover (dwOf A)
  simp only [dwOf_col] at h
  rw [← owns_whole (c : Thread nD τ) main_v2_1 fullShare (dwOf A)]
  exact h

end Cert.Kernel.Hand

end
-- ==== Proof.KRun.lean ====
/-
  Hand-written, untrusted. The kernel's run, generic in the float type: what the pipeline's state is made of when the
  region is entered and what it returns, and the run of the whole program with every semaphore at zero at the end.
-/
module

public import proofs.«01_k».proof.Proof.KData
public import proofs.«01_k».proof.Proof.KCut
public import Idealize.ShloMosaic.Lib.Pipeline.FrameSuffixV

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The kernel's own semaphore: the copies'. -/
abbrev osem0 : Fin 1 → SemLoc sig := fun _ => .dma cc0_scratch3.sem

/-- What the region leaves in the weight gradient's array; every other buffer as the region finds it. -/
def Gout (c : Dev nD) : (b : Ref sig .tc) → Buf (Elt F) ((c : Thread nD τ).loc b) :=
  Function.update (fun b => Gen.V m c b) main_v2_1 (dwOf (accEnd m c))

theorem Gout_dw (c : Dev nD) : Gout m c main_v2_1 = dwOf (accEnd m c) := Function.update_self ..

/-- Before the first point every column's slab and column block is held, at any contents. -/
theorem held_first (c : Dev nD) :
    iprop((bigSep Finset.univ fun j => iprop(∃ a, owns (c : Thread nD τ) (slab (Memref.whole cc0_scratch2) j) fullShare a))
      ∗ bigSep Finset.univ fun j => iprop(∃ x, owns (c : Thread nD τ) (colM (Memref.whole main_v2_1) j) fullShare x))
      ⊢ bigSep Finset.univ (heldSt m c (Memref.whole main_v2_1) (Memref.whole cc0_scratch2) 0) := by
  rw [← BI.bigSep_sep' Finset.univ]
  refine BI.bigSep_mono fun j _ => ?_
  rw [heldSt_live m c _ _ 0 j (Nat.zero_le _), slabSt_zero m c _ 0 j (Nat.zero_le _)]
  exact .refl _

/-- The state before the first point, from the kernel's buffers at any contents and its semaphore at zero. -/
theorem phi_in (c : Dev nD) (f : Buf (Elt F) ((c : Thread nD τ).loc main_v2_1)) :
    iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ semVal ((c : Thread nD τ), SemLoc.dma cc0_scratch3.sem) 0 ∗ ((c : Thread nD τ).loc main_v2_1) ↦{fullShare} f)
      ⊢ Phi m c 0 := by
  unfold Phi deqSt dytSt
  rw [if_pos rfl, if_pos rfl, semSt_zero m c _ _ _ 0 (by omega)]
  iintro ⟨⟨⟨%f0, H0⟩, ⟨%f1, H1⟩, ⟨%f2, H2⟩⟩, Hs, Hd⟩
  isplitl [H0]
  · iexists f0
    iapply (Entails.of_eq (owns_whole (c : Thread nD τ) cc0_scratch0 fullShare f0).symm)
    iexact H0
  isplitl [H1]
  · iexists f1
    iapply (Entails.of_eq (owns_whole (c : Thread nD τ) cc0_scratch1 fullShare f1).symm)
    iexact H1
  isplitl [H2 Hd]
  · iapply (held_first m c)
    isplitl [H2]
    · iapply (acc_split c f2); iexact H2
    · iapply (dw_split c f); iexact Hd
  · iexact Hs

/-- What the last point's state gives back: the buffers, the semaphore at zero, the weight gradient's array finished. -/
theorem phi_out (c : Dev nD) :
    Phi m c 288 ⊢ iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ semVal ((c : Thread nD τ), SemLoc.dma cc0_scratch3.sem) 0
      ∗ ((c : Thread nD τ).loc main_v2_1) ↦{fullShare} (dwOf (accEnd m c))) := by
  unfold Phi
  have hd : (bigSep Finset.univ (deliv c (Memref.whole main_v2_1) (Memref.whole cc0_scratch2) (accEnd m c)) : sProp 𝕄)
      = iprop((bigSep Finset.univ fun j => owns (c : Thread nD τ) (colM (Memref.whole main_v2_1) j) fullShare (sq (accEnd m c j)))
        ∗ bigSep Finset.univ fun j => owns (c : Thread nD τ) (slab (Memref.whole cc0_scratch2) j) fullShare (accEnd m c j)) := by
    rw [← BI.bigSep_sep']; rfl
  rw [semSt_end m c _ _ _ 288 rfl, hd]
  refine (show _ ⊢ iprop((∃ x, owns (c : Thread nD τ) (Memref.whole cc0_scratch0) fullShare x) ∗ (∃ x, owns (c : Thread nD τ) (Memref.whole cc0_scratch1) fullShare x)
      ∗ ((bigSep Finset.univ fun j => owns (c : Thread nD τ) (colM (Memref.whole main_v2_1) j) fullShare (sq (accEnd m c j)))
        ∗ bigSep Finset.univ fun j => owns (c : Thread nD τ) (slab (Memref.whole cc0_scratch2) j) fullShare (accEnd m c j))
      ∗ semVal ((c : Thread nD τ), SemLoc.dma cc0_scratch3.sem) 0) from ?_).trans ?_
  · iintro ⟨H0, H1, -, ⟨H2, Hs⟩⟩
    isplitl [H0]; · iapply (deqSt_any m c (Memref.whole cc0_scratch0) 288); iexact H0
    isplitl [H1]; · iapply (dytSt_any m c (Memref.whole cc0_scratch1) 288); iexact H1
    isplitl [H2]; · iexact H2
    iexact Hs
  · iintro ⟨⟨%x0, H0⟩, ⟨%x1, H1⟩, ⟨Hc, Ha⟩, Hs⟩
    isplitl [H0 H1 Ha]
    · isplitl [H0]
      · iexists x0
        iapply (Entails.of_eq (owns_whole (c : Thread nD τ) cc0_scratch0 fullShare x0))
        iexact H0
      isplitl [H1]
      · iexists x1
        iapply (Entails.of_eq (owns_whole (c : Thread nD τ) cc0_scratch1 fullShare x1))
        iexact H1
      iexists (accOf (accEnd m c))
      iapply (acc_join c (accEnd m c)); iexact Ha
    isplitl [Hs]; · iexact Hs
    iapply (dw_join c (accEnd m c)); iexact Hc

theorem ownSem0_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma cc0_scratch3.sem) 0 := by
  rw [Pipeline.ownSems0_eq_of_list c osem0 [0] (by decide) (by decide)]; rfl

/-- The region is entered at the state before the first point. -/
theorem region_in (c : Dev nD) :
    Pipeline.ΦDRV osem0 spec0 ∅ {main_v2_1} (fun c b => Gen.V m c b) (fun c b => Gen.V m c b) c ⊢ (dats m 0 c).Φ 0 := by
  show _ ⊢ Phi m c 0
  unfold Pipeline.ΦDRV
  rw [Gen.scopedRest0_eq c, ownSem0_eq c, BI.bigSep_empty, BI.bigSep_singleton]
  refine (show _ ⊢ _ from ?_).trans (phi_in m c (Gen.V m c main_v2_1))
  iintro ⟨H, Hs, -, Hd⟩
  isplitl [H]; · iexact H
  isplitl [Hs]; · iexact Hs
  iexact Hd

/-- The state after the last point is what the region returns. -/
theorem region_out (c : Dev nD) :
    (dats m 0 c).Φ (Fin.last cfg0.N) ⊢ Pipeline.ΦDRV osem0 spec0 ∅ {main_v2_1} (fun c b => Gen.V m c b) (Gout m) c := by
  have hN : (dats m 0 c).Φ (Fin.last cfg0.N) = Phi m c 288 := congrArg (Phi m c) Gen.N_0
  rw [hN]
  unfold Pipeline.ΦDRV
  rw [Gen.scopedRest0_eq c, ownSem0_eq c, BI.bigSep_empty, BI.bigSep_singleton, Gout_dw]
  refine (phi_out m c).trans ?_
  iintro ⟨H, Hs, Hd⟩
  isplitl [H]; · iexact H
  isplitl [Hs]; · iexact Hs
  isplitr; · iempintro
  iexact Hd

/-- What the host lines after the region leave in the buffers. -/
def tailV (c : Dev nD) : Valuation τ sig (Elt F) :=
  StableHlo.after (List.flatten [hostOps1]) (Pipeline.withArrays spec0 c (Pipeline.withR (Gen.V0 m c) {main_v2_1} c (Gout m c)) fun w => (dats m 0 c).arrAt w cfg0.N)

set_option maxHeartbeats 800000 in
theorem hmainD : Pipeline.HMainK (Ix := Unit) (Name := ℕ) (U := Pipeline.UD sig nD τ) (Lvl := ℕ) cfgs 0 defs₀ Variants.none m (main (F := F)) (Gen.V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- The whole program's run: every window's array at what the points leave there, every other buffer as the host lines
    after the region leave it, every semaphore at zero. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m c (Proc.devRef .tc b))
    ∧ r.2.sem = fun _ => 0) :=
  Pipeline.θ_run_frame_dmaR_aroundV cfgs (dats m) (0 : Fin 1) launch0 osem0 defs₀ Variants.none (by decide) ∅ {main_v2_1}
    (by decide) (by decide) m ρ main
    (hbody := fun c => (body_obligation m c).loose) (hshare := fun c => (dats m 0 c).share_full fun _ => rfl)
    (howed := fun _ _ => rfl) (V₀ := Gen.V0 m) (opss := [hostOps1]) (hsub := Gen.sfx_sub) (hfresh := Gen.sfx_fresh) (hkeep := Gen.sfx_keeps)
    (G := Gout m) (hmain := hmainD m) (hA := A_eq m) (hin := region_in m) (hout := region_out m)
    (Q' := _) (hQ' := fun r h => ⟨fun c => ⟨(h.1 c).1, (h.1 c).2⟩, h.2⟩)

end Cert.Kernel.Hand

end
-- ==== Proof.KOut.lean ====
/-
  Hand-written, untrusted. What the host lines after the region leave: the arguments as launched, the four results from
  the arrays the region leaves, and the frame.
-/
module

public import proofs.«01_k».proof.Proof.KRun

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

theorem arr_inj : Function.Injective (Pipeline.arrRef spec0) := by decide

/-- A buffer that the host lines after the region do not write and that is no window's array. -/
theorem tail_rest (c : Dev nD) (b : Ref sig .tc) (h3 : b ≠ main_v3) (h45 : b ≠ main_v4 ∧ b ≠ main_v5) (hw : ∀ w, Pipeline.arrRef spec0 w ≠ b) :
    tailV m c (Proc.devRef .tc b) = Pipeline.withR (Gen.V0 m c) {main_v2_1} c (Gout m c) (Proc.devRef .tc b) := by
  unfold tailV
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h3, StableHlo.devRef_ne_of_ne h45.1, StableHlo.devRef_ne_of_ne h45.2⟩)),
    Pipeline.withArrays_of_ne _ c _ _ b hw]

/-- The argument `main_arg0` ends as launched. -/
theorem tail_main_arg0 (c : Dev nD) : tailV m c (Proc.devRef .tc main_arg0) = m ((c : Thread nD τ).loc main_arg0) :=
  (tail_rest m c main_arg0 (by decide) (by decide) (by decide)).trans
    ((Pipeline.withR_of_not_mem _ _ _ _ main_arg0 (by decide)).trans (Gen.V_main_arg0 m c))

/-- The argument `main_arg1` ends as launched. -/
theorem tail_main_arg1 (c : Dev nD) : tailV m c (Proc.devRef .tc main_arg1) = m ((c : Thread nD τ).loc main_arg1) :=
  (tail_rest m c main_arg1 (by decide) (by decide) (by decide)).trans
    ((Pipeline.withR_of_not_mem _ _ _ _ main_arg1 (by decide)).trans (Gen.V_main_arg1 m c))

/-- The weight gradient. -/
theorem tail_dw (c : Dev nD) : tailV m c (Proc.devRef .tc main_v2_1) = dwOf (accEnd m c) :=
  (tail_rest m c main_v2_1 (by decide) (by decide) (by decide)).trans
    ((Pipeline.withR_of_mem _ _ _ _ main_v2_1 (by decide)).trans (Gout_dw m c))

/-- The three lines after the region, each at what it reads. -/
theorem after_tail (W : Valuation τ sig (Elt F)) :
    StableHlo.after (List.flatten [hostOps1]) W (Proc.devRef .tc main_v3) = shapeCast S12x1536x8192 (W (Proc.devRef .tc main_v2_0)) shapeCasts_S18432x8192_S12x1536x8192
    ∧ StableHlo.after (List.flatten [hostOps1]) W (Proc.devRef .tc main_v4) = shapeCast S12x1536x1024 (W (Proc.devRef .tc main_v2_2)) shapeCasts_S18432x1024_S12x1536x1024
    ∧ StableHlo.after (List.flatten [hostOps1]) W (Proc.devRef .tc main_v5) = shapeCast S12x1536x8 (W (Proc.devRef .tc main_v2_3)) shapeCasts_S18432x8_S12x1536x8 := by
  refine ⟨?_, ?_, ?_⟩
  all_goals
    simp only [hostOps1, List.flatten_cons, List.flatten_nil, List.append_nil, StableHlo.after_cons, StableHlo.after_nil]
  · rw [HloOp.result_of_not_mem _ _ (by rw [StableHlo.reshape_writes, Finset.mem_singleton]; exact StableHlo.devRef_ne_of_ne (by decide)),
      HloOp.result_of_not_mem _ _ (by rw [StableHlo.reshape_writes, Finset.mem_singleton]; exact StableHlo.devRef_ne_of_ne (by decide))]
    exact StableHlo.reshape_result main_v2_0 main_v3 rfl _ _ _ W
  · rw [HloOp.result_of_not_mem _ _ (by rw [StableHlo.reshape_writes, Finset.mem_singleton]; exact StableHlo.devRef_ne_of_ne (by decide))]
    refine (StableHlo.reshape_result main_v2_2 main_v4 rfl _ _ _ _).trans ?_
    rw [HloOp.result_of_not_mem _ _ (by rw [StableHlo.reshape_writes, Finset.mem_singleton]; exact StableHlo.devRef_ne_of_ne (by decide))]
    rfl
  · refine (StableHlo.reshape_result main_v2_3 main_v5 rfl _ _ _ _).trans ?_
    rw [HloOp.result_of_not_mem _ _ (by rw [StableHlo.reshape_writes, Finset.mem_singleton]; exact StableHlo.devRef_ne_of_ne (by decide)),
      HloOp.result_of_not_mem _ _ (by rw [StableHlo.reshape_writes, Finset.mem_singleton]; exact StableHlo.devRef_ne_of_ne (by decide))]
    rfl

/-- Window `w`'s array when the lines after the region are reached. -/
theorem mid_arr (c : Dev nD) (w : Fin cfg0.W) :
    (Pipeline.withArrays spec0 c (Pipeline.withR (Gen.V0 m c) {main_v2_1} c (Gout m c)) fun w => (dats m 0 c).arrAt w cfg0.N) (Proc.devRef .tc (Pipeline.arrRef spec0 w))
      = (dats m 0 c).arrAt w cfg0.N := Pipeline.withArrays_arr spec0 arr_inj c _ _ w

/-- The input gradient, before and after the host's reshape. -/
def dxOut (c : Dev nD) : Vec F S18432x8192 .bf16 := (dats m 0 c).arrAt 4 cfg0.N
/-- The codes, before the host's reshape. -/
def codesOut (c : Dev nD) : Vec F S18432x1024 .i8 := (dats m 0 c).arrAt 5 cfg0.N
/-- The scales, before the host's reshape. -/
def scalesOut (c : Dev nD) : Vec F S18432x8 .f32 := (dats m 0 c).arrAt 6 cfg0.N

theorem tail_dx (c : Dev nD) : tailV m c (Proc.devRef .tc main_v3) = shapeCast S12x1536x8192 (dxOut m c) shapeCasts_S18432x8192_S12x1536x8192 :=
  (after_tail _).1.trans (congrArg (fun a => shapeCast S12x1536x8192 a shapeCasts_S18432x8192_S12x1536x8192) (mid_arr m c 4))
theorem tail_codes (c : Dev nD) : tailV m c (Proc.devRef .tc main_v4) = shapeCast S12x1536x1024 (codesOut m c) shapeCasts_S18432x1024_S12x1536x1024 :=
  (after_tail _).2.1.trans (congrArg (fun a => shapeCast S12x1536x1024 a shapeCasts_S18432x1024_S12x1536x1024) (mid_arr m c 5))
theorem tail_scales (c : Dev nD) : tailV m c (Proc.devRef .tc main_v5) = shapeCast S12x1536x8 (scalesOut m c) shapeCasts_S18432x8_S12x1536x8 :=
  (after_tail _).2.2.trans (congrArg (fun a => shapeCast S12x1536x8 a shapeCasts_S18432x8_S12x1536x8) (mid_arr m c 6))

/-- The run with its results: the four results, the arguments as launched, every semaphore at zero. -/
theorem run : θ_run defs (onTc (τ := τ) (main (F := F))) ⟨m, fun _ => 0, ρ⟩ (fun r =>
    (∀ c : Dev nD,
      r.2.mem ((c.tc : Thread nD τ).loc main_v3) = shapeCast S12x1536x8192 (dxOut m c) shapeCasts_S18432x8192_S12x1536x8192
      ∧ r.2.mem ((c.tc : Thread nD τ).loc main_v2_1) = dwOf (accEnd m c)
      ∧ r.2.mem ((c.tc : Thread nD τ).loc main_v4) = shapeCast S12x1536x1024 (codesOut m c) shapeCasts_S18432x1024_S12x1536x1024
      ∧ r.2.mem ((c.tc : Thread nD τ).loc main_v5) = shapeCast S12x1536x8 (scalesOut m c) shapeCasts_S18432x8_S12x1536x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨((h.1 c).2 main_v3 (Pipeline.mem_restRefs_of main_v3 (by decide) (by decide))).trans (tail_dx m c),
     ((h.1 c).2 main_v2_1 (Pipeline.mem_restRefs_of main_v2_1 (by decide) (by decide))).trans (tail_dw m c),
     ((h.1 c).2 main_v4 (Pipeline.mem_restRefs_of main_v4 (by decide) (by decide))).trans (tail_codes m c),
     ((h.1 c).2 main_v5 (Pipeline.mem_restRefs_of main_v5 (by decide) (by decide))).trans (tail_scales m c),
     ((h.1 c).2 main_arg0 (Pipeline.mem_restRefs_of main_arg0 (by decide) (by decide))).trans (tail_main_arg0 m c),
     ((h.1 c).2 main_arg1 (Pipeline.mem_restRefs_of main_arg1 (by decide) (by decide))).trans (tail_main_arg1 m c),
     ((h.1 c).1 3).trans (((dats m 0 c).arrAt_in 3 rfl _).trans ((A_eq m c 3).trans (Gen.V_main_arg2 m c))),
     ((h.1 c).1 0).trans (((dats m 0 c).arrAt_in 0 rfl _).trans ((A_eq m c 0).trans (Gen.V_main_arg3 m c)))⟩, h.2⟩) (run_main m ρ)

/-- The frame: the arguments end as launched and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2.2, h.2⟩) (run m ρ)

end Cert.Kernel.Hand

end
-- ==== Proof.KIProg.lean ====
/-
  Hand-written, untrusted. The kernel's body at a grid point as four programs run one after another: at a token block's
  first point, quantise the block (`quantProg`); the input gradient's block (`dxProg`); the weight gradient's block, stored
  or added to its accumulator (`midProg`); at the last token block, start the copy of the finished accumulator
  (`issueProg`); at the last point, wait for the eight copies (`drainProg`). `body_eq` says that the printed body is
  these, in this order.
-/
module

public import proofs.«01_k».proof.Proof.Gen.KernelIdeal.Skeleton
public import Idealize.ShloMosaic.Lib.Tactic

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-- Quantise the token block's eight groups of 128 columns: the codes, the scales and the dequantised block; then keep the
    block transposed. -/
def quantProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let ⟨v64, v67, v69, v70⟩ : Σ' (v64 : FVec F S512x128 .f32) (v67 : FVec F S512x1 .f32) (v69 : IVec S512x1 1), FVec F S512x1 .f32 ← k0_part1 i arg2 harg2 arg3 harg3 arg4 harg4 arg5 harg5 arg6 harg6 arg7 harg7 arg8 harg8 arg9 harg9 arg10 harg10 arg11 harg11 arg12 harg12 arg13
  let ⟨v102, v109, v110⟩ : Σ' (v102 : FVec F S512x1 .f32) (v109 : FVec F S512x128 .f32), IVec S512x128 8 ← k0_part2 i arg2 harg2 arg3 harg3 arg4 harg4 arg5 harg5 arg6 harg6 arg7 harg7 arg8 harg8 arg9 harg9 arg10 harg10 arg11 harg11 arg12 harg12 arg13 v64 v67 v69 v70
  let v145 : FVec F S512x128 .bf16 ← k0_part3 i arg2 harg2 arg3 harg3 arg4 harg4 arg5 harg5 arg6 harg6 arg7 harg7 arg8 harg8 arg9 harg9 arg10 harg10 arg11 harg11 arg12 harg12 arg13 v102 v109 v110
  let ⟨v180, v183, cst_82⟩ : Σ' (v180 : FVec F S512x128 .f32) (v183 : FVec F S512x1 .f32), F .f32 ← k0_part4 i arg2 harg2 arg3 harg3 arg4 harg4 arg5 harg5 arg6 harg6 arg7 harg7 arg8 harg8 arg9 harg9 arg10 harg10 arg11 harg11 arg12 harg12 arg13 v145
  let ⟨v218, v221, cst_98, v222⟩ : Σ' (v218 : FVec F S512x1 .f32) (v221 : FVec F S512x128 .f32) (cst_98 : F .f32), FVec F S512x128 .f32 ← k0_part5 i arg2 harg2 arg3 harg3 arg4 harg4 arg5 harg5 arg6 harg6 arg7 harg7 arg8 harg8 arg9 harg9 arg10 harg10 arg11 harg11 arg12 harg12 arg13 v180 v183 cst_82
  let ⟨v258, v259⟩ : Σ' (v258 : FVec F S512x128 .bf16), FVec F S512x1 .bf16 ← k0_part6 i arg2 harg2 arg3 harg3 arg4 harg4 arg5 harg5 arg6 harg6 arg7 harg7 arg8 harg8 arg9 harg9 arg10 harg10 arg11 harg11 arg12 harg12 arg13 v218 v221 cst_98 v222
  let v262 : Vec F S512x128 .bf16 ← Prog.lift (.load arg10 (Rect.unit (s := S512x1024) ![0, 896] S512x128.size inb_S512x1024_S512x128_0_896).toLoadRect (View.loadsAt_vmem h_S512x128))
  Prog.lift (.store arg10 (Rect.unit (s := S512x1024) ![0, 896] S512x128.size inb_S512x1024_S512x128_0_896) (k0_pay49 v258 v259) Finset.univ (View.stores_vmem h_S512x128 (harg10.storeExact_slice rfl _ packedbf16_S512x1024_S512x128_0_896) (fun _ => rfl)) (.inl rfl))
  let v265 : Vec F S512x1024 .bf16 ← Prog.lift (.load arg4 (Rect.unit (s := S512x1024) ![0, 0] S512x1024.size inb_S512x1024_S512x1024_0_0).toLoadRect (View.loadsAt_vmem h_S512x1024))
  let v268 : Vec F S1024x512 .bf16 ← Prog.lift (.load arg11 (Rect.unit (s := S1024x512) ![0, 0] S1024x512.size inb_S1024x512_S1024x512_0_0).toLoadRect (View.loadsAt_vmem h_S1024x512))
  Prog.lift (.store arg11 (Rect.unit (s := S1024x512) ![0, 0] S1024x512.size inb_S1024x512_S1024x512_0_0) (k0_pay50 v265) Finset.univ (View.stores_vmem h_S1024x512 (harg11.storeExact_slice rfl _ packedbf16_S1024x512_S1024x512_0_0) (fun _ => rfl)) (.inl rfl))
  pure ⟨⟩

/-- The input gradient's block: the dequantised block times a block of the codes of the weight, scaled and rounded. -/
def dxProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let v6 : Vec F S1024x1024 .i8 ← Prog.lift (.load arg5 (Rect.unit (s := S1024x8192) (k0_off1 i) S1024x1024.size (k0_off1_inb i)).toLoadRect (View.loadsAt_vmem h_S1024x1024))
  let v8 : Vec F S512x1024 .bf16 ← Prog.lift (.load arg10 (Rect.unit (s := S512x1024) ![0, 0] S512x1024.size inb_S512x1024_S512x1024_0_0).toLoadRect (View.loadsAt_vmem h_S512x1024))
  let v10 : Elt F .f32 ← smemLoad arg2 (Rect.unit (s := S1) ![0] S1.size inb_S1_S1_0) numel1_S1 rfl
  let v14 : Vec F S512x1024 .bf16 ← Prog.lift (.load arg6 (Rect.unit (s := S512x1024) ![0, 0] S512x1024.size inb_S512x1024_S512x1024_0_0).toLoadRect (View.loadsAt_vmem h_S512x1024))
  Prog.lift (.store arg6 (Rect.unit (s := S512x1024) ![0, 0] S512x1024.size inb_S512x1024_S512x1024_0_0) (k0_pay51 v6 v8 v10) Finset.univ (View.stores_vmem h_S512x1024 (harg6.storeExact_slice rfl _ packedbf16_S512x1024_S512x1024_0_0) (fun _ => rfl)) (.inl rfl))
  pure ⟨⟩

/-- The weight gradient's block of this token block: stored to its accumulator at the first token block, added to it later. -/
def midProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let v15 : Vec F S1024x512 .bf16 ← Prog.lift (.load arg11 (Rect.unit (s := S1024x512) ![0, 0] S1024x512.size inb_S1024x512_S1024x512_0_0).toLoadRect (View.loadsAt_vmem h_S1024x512))
  let v16 : Vec F S512x1024 .bf16 ← Prog.lift (.load arg3 (Rect.unit (s := S512x1024) ![0, 0] S512x1024.size inb_S512x1024_S512x1024_0_0).toLoadRect (View.loadsAt_vmem h_S512x1024))
  if k0_h2 : k0_cond2 i = 1#1 then do
    let v34 : Vec F S1x1024x1024 .f32 ← Prog.lift (.load arg12 (Rect.unit (s := S8x1024x1024) (k0_off2 i) S1x1024x1024.size (k0_off2_inb i k0_h2)).toLoadRect (View.loadsAt_vmem h_S1x1024x1024))
    Prog.lift (.store arg12 (Rect.unit (s := S8x1024x1024) (k0_off2 i) S1x1024x1024.size (k0_off2_inb i k0_h2)) (k0_pay53 v15 v16) Finset.univ (View.stores_vmem_bits_univ h_S1x1024x1024 rfl) (.inl rfl))
    pure ⟨⟩
  else do
    pure ⟨⟩
  if k0_h3 : k0_cond3 i = 1#1 then do
    let v34 : Vec F S1x1024x1024 .f32 ← Prog.lift (.load arg12 (Rect.unit (s := S8x1024x1024) (k0_off3 i) S1x1024x1024.size (k0_off3_inb i k0_h3)).toLoadRect (View.loadsAt_vmem h_S1x1024x1024))
    let v38 : Vec F S1x1024x1024 .f32 ← Prog.lift (.load arg12 (Rect.unit (s := S8x1024x1024) (k0_off3 i) S1x1024x1024.size (k0_off3_inb i k0_h3)).toLoadRect (View.loadsAt_vmem h_S1x1024x1024))
    Prog.lift (.store arg12 (Rect.unit (s := S8x1024x1024) (k0_off3 i) S1x1024x1024.size (k0_off3_inb i k0_h3)) (k0_pay54 v15 v16 v34) Finset.univ (View.stores_vmem_bits_univ h_S1x1024x1024 rfl) (.inl rfl))
    pure ⟨⟩
  else do
    pure ⟨⟩
  pure ⟨⟩

/-- At the last token block, the copy of the finished accumulator to the result is started. -/
def issueProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  if k0_h4 : k0_cond4 i = 1#1 then do
    let v34 : Memref sig .tc .hbm S1024x1024 .f32 := arg7.slice (Rect.unit (s := S1024x8192) (k0_off4 i) S1024x1024.size (k0_off4_inb i k0_h4)) (fun _ => rfl)
    let v35 : Memref sig .tc .vmem S1x1024x1024 .f32 := arg12.slice (Rect.unit (s := S8x1024x1024) (k0_off5 i) S1x1024x1024.size (k0_off5_inb i k0_h4)) (fun _ => rfl)
    let v36 : Memref sig .tc .vmem S1024x1024 .f32 := v35.squeeze S1024x1024 squeezes_S1x1024x1024_S1024x1024
    Prog.lift (.enqueueDma v36 (.here v34) (.dma arg13.sem) ((View.wordExact_bits rfl).reshape _ _) (View.wordExact_bits rfl) ⟨Or.inl rfl, trivial⟩)
    pure ⟨⟩
  else do
    pure ⟨⟩
  pure ⟨⟩

/-- At the last point, the eight copies are waited for. -/
def drainProg (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    Prog (TpuEff nD τ sig (Elt F) Λ₀ .tc) PUnit := do
  let arg0 : BitVec 32 := BitVec.ofNat 32 (i 0).val
  let arg1 : BitVec 32 := BitVec.ofNat 32 (i 1).val
  let v28 : BitVec 1 := Scalar.cmpi .eq arg0 35#32
  let v29 : BitVec 1 := Scalar.cmpi .eq arg1 7#32
  let v30 : BitVec 1 := Scalar.andi v28 v29
  let v31 : BitVec 32 := Scalar.extui v30
  let v32 : BitVec 1 := Scalar.cmpi .ne v31 0#32
  if k0_h5 : v32 = 1#1 then do
    k0_part7 i arg2 harg2 arg3 harg3 arg4 harg4 arg5 harg5 arg6 harg6 arg7 harg7 arg8 harg8 arg9 harg9 arg10 harg10 arg11 harg11 arg12 harg12 arg13
    let v52 : Memref sig .tc .vmem S1x1024x1024 .f32 := arg12.slice (Rect.unit (s := S8x1024x1024) ![6, 0, 0] S1x1024x1024.size inb_S8x1024x1024_S1x1024x1024_6_0_0) (fun _ => rfl)
    let v53 : Memref sig .tc .vmem S1024x1024 .f32 := v52.squeeze S1024x1024 squeezes_S1x1024x1024_S1024x1024
    let v51 : Memref sig .tc .hbm S1024x1024 .f32 := arg7.slice (Rect.unit (s := S1024x8192) ![0, 6144] S1024x1024.size inb_S1024x8192_S1024x1024_0_6144) (fun _ => rfl)
    Prog.lift (.waitDma2 arg13.sem v53 v51 ((View.wordExact_bits rfl).reshape _ _) (View.wordExact_bits rfl))
    let v54 : Memref sig .tc .hbm S1024x1024 .f32 := arg7.slice (Rect.unit (s := S1024x8192) ![0, 7168] S1024x1024.size inb_S1024x8192_S1024x1024_0_7168) (fun _ => rfl)
    let v55 : Memref sig .tc .vmem S1x1024x1024 .f32 := arg12.slice (Rect.unit (s := S8x1024x1024) ![7, 0, 0] S1x1024x1024.size inb_S8x1024x1024_S1x1024x1024_7_0_0) (fun _ => rfl)
    let v56 : Memref sig .tc .vmem S1024x1024 .f32 := v55.squeeze S1024x1024 squeezes_S1x1024x1024_S1024x1024
    Prog.lift (.waitDma2 arg13.sem v56 v54 ((View.wordExact_bits rfl).reshape _ _) (View.wordExact_bits rfl))
    pure ⟨⟩
  else do
    pure ⟨⟩
  pure ⟨⟩

/-- The printed body is the five programs, one after another. -/
theorem body_eq (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) :
    cc0_switchback_bwd (F := F) i arg2 harg2 arg3 harg3 arg4 harg4 arg5 harg5 arg6 harg6 arg7 harg7 arg8 harg8 arg9 harg9 arg10 harg10 arg11 harg11 arg12 harg12 arg13
      = (do
          (if k0_cond1 i = 1#1 then quantProg i arg2 harg2 arg3 harg3 arg4 harg4 arg5 harg5 arg6 harg6 arg7 harg7 arg8 harg8 arg9 harg9 arg10 harg10 arg11 harg11 arg12 harg12 arg13 else pure ⟨⟩)
          dxProg i arg2 harg2 arg3 harg3 arg4 harg4 arg5 harg5 arg6 harg6 arg7 harg7 arg8 harg8 arg9 harg9 arg10 harg10 arg11 harg11 arg12 harg12 arg13
          midProg i arg2 harg2 arg3 harg3 arg4 harg4 arg5 harg5 arg6 harg6 arg7 harg7 arg8 harg8 arg9 harg9 arg10 harg10 arg11 harg11 arg12 harg12 arg13
          issueProg i arg2 harg2 arg3 harg3 arg4 harg4 arg5 harg5 arg6 harg6 arg7 harg7 arg8 harg8 arg9 harg9 arg10 harg10 arg11 harg11 arg12 harg12 arg13
          drainProg i arg2 harg2 arg3 harg3 arg4 harg4 arg5 harg5 arg6 harg6 arg7 harg7 arg8 harg8 arg9 harg9 arg10 harg10 arg11 harg11 arg12 harg12 arg13) := by
  rw [cc0_switchback_bwd_eq_skeleton]
  unfold cc0_switchback_bwd_skel
  rw [k0_part8_eq_skeleton]
  unfold k0_part8_skel quantProg dxProg midProg issueProg drainProg
  by_cases h1 : k0_cond1 i = 1#1 <;> by_cases h2 : k0_cond2 i = 1#1 <;> by_cases h3 : k0_cond3 i = 1#1
    <;> by_cases h4 : k0_cond4 i = 1#1 <;>
  simp only [h1, h2, h3, h4, dite_true, dite_false, if_true, if_false, bind_assoc, pure_bind]

end Cert.KernelIdeal.Hand

end
-- ==== Proof.KIMid.lean ====
/-
  Hand-written, untrusted. What the two matrix products of a grid point store: the input gradient's block
  (`dx_spec`) and the accumulator's slab at the first token block (`mid_first`) and at a later one (`mid_next`).
-/
module

public import proofs.«01_k».proof.Proof.KIProg
public import proofs.«01_k».proof.Proof.Gen.KernelIdeal.Launch
public import Idealize.ShloMosaic.Lib.Pipeline.FrameBody
public import Idealize.ShloMosaic.Lib.Batch
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

theorem inb_slab (j : Fin 8) : ∀ a, (![j.val, 0, 0] : Fin 3 → Nat) a + S1x1024x1024.size a ≤ S8x1024x1024.size a := by
  revert j; decide
theorem inb_col (j : Fin 8) : ∀ a, (![0, 1024 * j.val] : Fin 2 → Nat) a + S1024x1024.size a ≤ S1024x8192.size a := by
  revert j; decide

/-- Slab `j` of the accumulator, its unit axis kept. -/
def slab (M : Memref sig .tc .vmem S8x1024x1024 .f32) (j : Fin 8) : Memref sig .tc .vmem S1x1024x1024 .f32 :=
  M.slice (Rect.unit (s := S8x1024x1024) ![j.val, 0, 0] S1x1024x1024.size (inb_slab j)) (fun _ => rfl)

/-- The block of 1024 columns of the weight's codes that belongs to grid column `i 1`. -/
def wcols (w : Vec F S1024x8192 .i8) (j : Fin 8) : Vec F S1024x1024 .i8 :=
  View.ld w (Rect.unit (s := S1024x8192) ![0, 1024 * j.val] S1024x1024.size (inb_col j))

/-- A store's elements at slab `j`'s offsets, however spelt, are the slab's. -/
theorem access_sub (M : Memref sig .tc .vmem S8x1024x1024 .f32) (j : Fin 8) {off : Fin 3 → Nat} (h : off = ![j.val, 0, 0])
    (inb : ∀ a, off a + S1x1024x1024.size a ≤ S8x1024x1024.size a) :
    (M.access (Rect.unit (s := S8x1024x1024) off S1x1024x1024.size inb)).set ⊆ (slab M j).view.set := by
  subst h; exact subset_rfl

/-- A load's elements at slab `j`'s offsets, however spelt, are the slab's. -/
theorem setOn_sub (M : Memref sig .tc .vmem S8x1024x1024 .f32) (j : Fin 8) {off : Fin 3 → Nat} (h : off = ![j.val, 0, 0])
    (inb : ∀ a, off a + S1x1024x1024.size a ≤ S8x1024x1024.size a) :
    M.view.setOn (Rect.unit (s := S8x1024x1024) off S1x1024x1024.size inb).toLoadRect.set ⊆ (slab M j).view.set := by
  subst h; exact (View.set_slice M.view _).ge

/-- A load at slab `j`'s offsets, however spelt, reads the slab. -/
theorem readAt_slab (M : Memref sig .tc .vmem S8x1024x1024 .f32) (j : Fin 8) {off : Fin 3 → Nat} (h : off = ![j.val, 0, 0])
    (inb : ∀ a, off a + S1x1024x1024.size a ≤ S8x1024x1024.size a) (f : M.view.ty.Contents (Elt F)) :
    M.view.readAt (Elt F) (Rect.unit (s := S8x1024x1024) off S1x1024x1024.size inb).toLoadRect f = (slab M j).view.read (Elt F) f := by
  subst h; rfl

set_option maxHeartbeats 4000000 in
theorem dx_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (w : Vec F S1024x8192 .i8) (d : Vec F S512x1024 .bf16) (ws : Vec F S1 .f32) (K : PUnit → sProp 𝕄) :
    iprop(owns (c : Thread nD τ) arg2 fullShare ws ∗ owns (c : Thread nD τ) arg5 fullShare w ∗ owns (c : Thread nD τ) arg10 fullShare d
        ∗ (∃ x, owns (c : Thread nD τ) arg6 fullShare x)
        ∗ (iprop(owns (c : Thread nD τ) arg2 fullShare ws ∗ owns (c : Thread nD τ) arg5 fullShare w ∗ owns (c : Thread nD τ) arg10 fullShare d
            ∗ owns (c : Thread nD τ) arg6 fullShare (k0_pay51 (wcols w (i 1)) d (ws (fun a => ⟨0, by revert a; decide⟩)))) -∗ K ⟨⟩))
      ⊢ wp frame (wpE (defs₀ (F := F)) Variants.none c none) Set.univ
          (dxProg i arg2 harg2 arg3 harg3 arg4 harg4 arg5 harg5 arg6 harg6 arg7 harg7 arg8 harg8 arg9 harg9 arg10 harg10 arg11 harg11 arg12 harg12 arg13) K := by
  unfold dxProg owns
  iintro ⟨⟨%f2, %e2, H2⟩, ⟨%f5, %e5, H5⟩, ⟨%f10, %e10, H10⟩, ⟨%x6, %f6, %e6, H6⟩, Hk⟩
  sl_exec
  sl_step
  iapply Hk
  isplitl [H2]; · iexists _; isplitr; swap; · iexact H2
                  ipureintro; exact e2
  isplitl [H5]; · iexists _; isplitr; swap; · iexact H5
                  ipureintro; exact e5
  isplitl [H10]; · iexists _; isplitr; swap; · iexact H10
                   ipureintro; exact e10
  iexists _; isplitr; swap; · iexact H6
  ipureintro
  unfold dx_spec.sl.r
  rw [View.read_writes_full, View.readAt_unit _ _ _ (k0_off1_eq i) (inb_col (i 1)), View.readAt_full, e5, e10]
  rw [← e2]
  exact congrArg (k0_pay51 _ d) (congrFun (View.readAt_full arg2.view f2 inb_S1_S1_0) _)

set_option maxHeartbeats 4000000 in
theorem mid_first (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h2 : k0_cond2 i = 1#1) (h3 : ¬ k0_cond3 i = 1#1) (x : Vec F S512x1024 .bf16) (t : Vec F S1024x512 .bf16) (K : PUnit → sProp 𝕄) :
    iprop(owns (c : Thread nD τ) arg3 fullShare x ∗ owns (c : Thread nD τ) arg11 fullShare t
        ∗ (∃ a, owns (c : Thread nD τ) (slab arg12 (i 1)) fullShare a)
        ∗ (iprop(owns (c : Thread nD τ) arg3 fullShare x ∗ owns (c : Thread nD τ) arg11 fullShare t
            ∗ owns (c : Thread nD τ) (slab arg12 (i 1)) fullShare (k0_pay53 t x)) -∗ K ⟨⟩))
      ⊢ wp frame (wpE (defs₀ (F := F)) Variants.none c none) Set.univ
          (midProg i arg2 harg2 arg3 harg3 arg4 harg4 arg5 harg5 arg6 harg6 arg7 harg7 arg8 harg8 arg9 harg9 arg10 harg10 arg11 harg11 arg12 harg12 arg13) K := by
  have hS := access_sub arg12 (i 1) (k0_off2_eq i) (k0_off2_inb i h2)
  unfold midProg owns
  iintro ⟨⟨%f3, %e3, H3⟩, ⟨%f11, %e11, H11⟩, ⟨%xa, %fa, %ea, Ha⟩, Hk⟩
  sl_exec
  sl_step
  iapply Hk
  isplitl [H3]; · iexists _; isplitr; swap; · iexact H3
                  ipureintro; exact e3
  isplitl [H11]; · iexists _; isplitr; swap; · iexact H11
                   ipureintro; exact e11
  iexists _; isplitr; swap; · iexact Ha
  ipureintro
  unfold mid_first.sl.Ha_w1
  rw [View.readAt_full, View.readAt_full, e3, e11]
  exact Memref.read_slice_write arg12 (k0_off2_inb i h2) (k0_off2_eq i) (inb_slab (i 1)) fa _

set_option maxHeartbeats 4000000 in
theorem mid_next (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h2 : ¬ k0_cond2 i = 1#1) (h3 : k0_cond3 i = 1#1) (x : Vec F S512x1024 .bf16) (t : Vec F S1024x512 .bf16) (a : Vec F S1x1024x1024 .f32) (K : PUnit → sProp 𝕄) :
    iprop(owns (c : Thread nD τ) arg3 fullShare x ∗ owns (c : Thread nD τ) arg11 fullShare t
        ∗ owns (c : Thread nD τ) (slab arg12 (i 1)) fullShare a
        ∗ (iprop(owns (c : Thread nD τ) arg3 fullShare x ∗ owns (c : Thread nD τ) arg11 fullShare t
            ∗ owns (c : Thread nD τ) (slab arg12 (i 1)) fullShare (k0_pay54 t x a)) -∗ K ⟨⟩))
      ⊢ wp frame (wpE (defs₀ (F := F)) Variants.none c none) Set.univ
          (midProg i arg2 harg2 arg3 harg3 arg4 harg4 arg5 harg5 arg6 harg6 arg7 harg7 arg8 harg8 arg9 harg9 arg10 harg10 arg11 harg11 arg12 harg12 arg13) K := by
  have hS := access_sub arg12 (i 1) (k0_off3_eq i) (k0_off3_inb i h3)
  have hL := setOn_sub arg12 (i 1) (k0_off3_eq i) (k0_off3_inb i h3)
  unfold midProg owns
  iintro ⟨⟨%f3, %e3, H3⟩, ⟨%f11, %e11, H11⟩, ⟨%fa, %ea, Ha⟩, Hk⟩
  sl_exec
  sl_step
  iapply Hk
  isplitl [H3]; · iexists _; isplitr; swap; · iexact H3
                  ipureintro; exact e3
  isplitl [H11]; · iexists _; isplitr; swap; · iexact H11
                   ipureintro; exact e11
  iexists _; isplitr; swap; · iexact Ha
  ipureintro
  unfold mid_next.sl.Ha_w1 mid_next.sl.v34
  rw [View.readAt_full, View.readAt_full, e3, e11]

  rw [← ea]
  refine (Memref.read_slice_write arg12 (k0_off3_inb i h3) (k0_off3_eq i) (inb_slab (i 1)) fa _).trans (congrArg (k0_pay54 t x) ?_)
  exact readAt_slab arg12 (i 1) (k0_off3_eq i) (k0_off3_inb i h3) fa
end Cert.KernelIdeal.Hand

end
-- ==== Proof.KIIssue.lean ====
/-
  Hand-written, untrusted. The copies of the finished accumulator to the weight gradient's array: eight copies on one
  semaphore, started one a point at the last token block (`issue_spec`) and all waited for at the last point
  (`drain_spec`).
-/
module

public import proofs.«01_k».proof.Proof.KIMid

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

/-- Column block `j` of the weight gradient's array: its columns 1024·j to 1024·j + 1023. -/
def colM (M : Memref sig .tc .hbm S1024x8192 .f32) (j : Fin 8) : Memref sig .tc .hbm S1024x1024 .f32 :=
  M.slice (Rect.unit (s := S1024x8192) ![0, 1024 * j.val] S1024x1024.size (inb_col j)) (fun _ => rfl)

/-- A slab without its unit axis. -/
def sq (a : Vec F S1x1024x1024 .f32) : Vec F S1024x1024 .f32 :=
  fun y => a (Shape.reshapeEquiv squeezes_S1x1024x1024_S1024x1024.numel_eq y)

/-- What copy `j` delivers: the column block at the slab's contents, and the slab back. -/
def deliv (c : Dev nD) (M7 : Memref sig .tc .hbm S1024x8192 .f32) (M12 : Memref sig .tc .vmem S8x1024x1024 .f32)
    (A : Fin 8 → Vec F S1x1024x1024 .f32) (j : Fin 8) : sProp 𝕄 :=
  iprop(owns (c : Thread nD τ) (colM M7 j) fullShare (sq (A j)) ∗ owns (c : Thread nD τ) (slab M12 j) fullShare (A j))

instance deliv_storable (c : Dev nD) (M7 : Memref sig .tc .hbm S1024x8192 .f32) (M12 : Memref sig .tc .vmem S8x1024x1024 .f32)
    (A : Fin 8 → Vec F S1x1024x1024 .f32) (j : Fin 8) : Storable (upEmb : UEmb _ 𝕄) (deliv c M7 M12 A j) := by
  unfold deliv; infer_instance

/-- One copy's units on its semaphore. -/
abbrev copyN (M7 : Memref sig .tc .hbm S1024x8192 .f32) (s : DmaSem sig) : ℕ := (colM M7 0).view.amount (SemLoc.dma (sig := sig) s)

/-- The eight copies on semaphore `s`, the first `k` started and `u` units waited for. -/
abbrev copies (c : Dev nD) (M7 : Memref sig .tc .hbm S1024x8192 .f32) (M12 : Memref sig .tc .vmem S8x1024x1024 .f32) (s : DmaSem sig)
    (A : Fin 8 → Vec F S1x1024x1024 .f32) (k u : ℕ) : sProp 𝕄 :=
  Transfers.Batch (countersEmb (U := Pipeline.UD sig nD τ)) (c : Thread nD τ) (.dma s) () (copyN M7 s) (deliv c M7 M12 A) k u

/-- No copy is started yet: the semaphore at zero is the eight copies with none started. -/
theorem copies_alloc (c : Dev nD) (M7 : Memref sig .tc .hbm S1024x8192 .f32) (M12 : Memref sig .tc .vmem S8x1024x1024 .f32) (s : DmaSem sig)
    (A : Fin 8 → Vec F S1x1024x1024 .f32) :
    (semVal ((c : Thread nD τ), SemLoc.dma s) 0 : sProp 𝕄) ⊢ |={Set.univ}=> copies c M7 M12 s A 0 0 :=
  Transfers.batch_alloc' (Lvl := ℕ) (countersEmb (U := Pipeline.UD sig nD τ)) (c : Thread nD τ) () (copyN M7 s) (deliv c M7 M12 A)
    (sm := SemLoc.dma s) (E := Set.univ)

/-- A value handed on to the rest of a program. -/
theorem ret_bind' {E : Type → Type} {α β : Type} (a : α) (k : α → Prog E β) : (Prog.ret a).bind k = k a := rfl

set_option maxHeartbeats 2000000 in
/-- One copy's start, its source and destination however spelt. -/
theorem issue_step (c : Dev nD) (M7 : Memref sig .tc .hbm S1024x8192 .f32) (M12 : Memref sig .tc .vmem S8x1024x1024 .f32) (s : DmaSem sig)
    (A : Fin 8 → Vec F S1x1024x1024 .f32) (j : Fin 8) {o4 : Fin 2 → Nat} (h4 : o4 = ![0, 1024 * j.val])
    (inb4 : ∀ a, o4 a + S1024x1024.size a ≤ S1024x8192.size a) {o5 : Fin 3 → Nat} (h5 : o5 = ![j.val, 0, 0])
    (inb5 : ∀ a, o5 a + S1x1024x1024.size a ≤ S8x1024x1024.size a) (hsrc hdst hsem)
    (k : PUnit → Prog (TpuEff nD τ sig (Elt F) Λ₀ .tc) PUnit) (Q : PUnit → sProp 𝕄) :
    iprop(owns (c : Thread nD τ) (slab M12 j) fullShare (A j) ∗ (∃ x, owns (c : Thread nD τ) (colM M7 j) fullShare x)
        ∗ copies c M7 M12 s A j.val 0
        ∗ (copies c M7 M12 s A (j.val + 1) 0 -∗ wp frame (wpE (defs₀ (F := F)) Variants.none c none) Set.univ (k ⟨⟩) Q))
      ⊢ wp frame (wpE (defs₀ (F := F)) Variants.none c none) Set.univ
          (.op (.enqueueDma ((M12.slice (Rect.unit (s := S8x1024x1024) o5 S1x1024x1024.size inb5) (fun _ => rfl)).squeeze S1024x1024 squeezes_S1x1024x1024_S1024x1024)
            (.here (M7.slice (Rect.unit (s := S1024x8192) o4 S1024x1024.size inb4) (fun _ => rfl))) (.dma s) hsrc hdst hsem) k) Q := by
  subst h4; subst h5
  unfold owns
  iintro ⟨⟨%fs, %es, Hs⟩, ⟨%x, %fd, %ed, Hd⟩, HB, Hk⟩
  have hset : ((slab M12 j).squeeze S1024x1024 squeezes_S1x1024x1024_S1024x1024).view.set = (slab M12 j).view.set := View.set_reshape _ _
  have hread : ∀ f, ((slab M12 j).squeeze S1024x1024 squeezes_S1x1024x1024_S1024x1024).view.read (Elt F) f = sq ((slab M12 j).view.read (Elt F) f) := fun _ => rfl
  iapply (Transfers.wp_dmaBatch (countersEmb (U := Pipeline.UD sig nD τ)) Variants.none (c : Thread nD τ) none
    (src := (slab M12 j).squeeze S1024x1024 squeezes_S1x1024x1024_S1024x1024) (dst := colM M7 j) () (copyN M7 s) rfl subset_rfl
    (D := deliv c M7 M12 A) (j := j.val) (u := 0) (q := fullShare) (fs := fs) (fd := fd) j.isLt (Nat.zero_le _) ?_) $$ [Hs Hd HB]
  rotate_left
  · rw [hset]
    isplitl [Hs]; · iexact Hs
    isplitl [Hd]; · iexact Hd
    iexact HB
  · iexact Hk
  · rw [hset]
    unfold deliv owns
    iintro ⟨H1, H2⟩
    isplitl [H1]
    · iexists _; isplitr; swap; · iexact H1
      ipureintro
      rw [View.read_write_univ]
      exact congrArg sq es
    · iexists _; isplitr; swap; · iexact H2
      ipureintro; exact es

set_option maxHeartbeats 2000000 in
/-- At the last token block the point starts its column's copy. -/
theorem issue_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h4 : k0_cond4 i = 1#1) (A : Fin 8 → Vec F S1x1024x1024 .f32) (K : PUnit → sProp 𝕄) :
    iprop(owns (c : Thread nD τ) (slab arg12 (i 1)) fullShare (A (i 1)) ∗ (∃ x, owns (c : Thread nD τ) (colM arg7 (i 1)) fullShare x)
        ∗ copies c arg7 arg12 arg13.sem A (i 1).val 0
        ∗ (copies c arg7 arg12 arg13.sem A ((i 1).val + 1) 0 -∗ K ⟨⟩))
      ⊢ wp frame (wpE (defs₀ (F := F)) Variants.none c none) Set.univ
          (issueProg i arg2 harg2 arg3 harg3 arg4 harg4 arg5 harg5 arg6 harg6 arg7 harg7 arg8 harg8 arg9 harg9 arg10 harg10 arg11 harg11 arg12 harg12 arg13) K := by
  unfold issueProg
  rw [dif_pos h4]
  iintro ⟨Hs, Hd, HB, Hk⟩
  iapply (issue_step c arg7 arg12 arg13.sem A (i 1) (k0_off4_eq i) (k0_off4_inb i h4) (k0_off5_eq i) (k0_off5_inb i h4) _ _ _ _ _)
  isplitl [Hs]; · iexact Hs
  isplitl [Hd]; · iexact Hd
  isplitl [HB]; · iexact HB
  iintro HB
  simp only [ret_bind']
  sl_step
  iapply Hk
  iexact HB

/-- Before the last token block nothing is started. -/
theorem issue_none (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h4 : ¬ k0_cond4 i = 1#1) (K : PUnit → sProp 𝕄) :
    K ⟨⟩ ⊢ wp frame (wpE (defs₀ (F := F)) Variants.none c none) Set.univ
          (issueProg i arg2 harg2 arg3 harg3 arg4 harg4 arg5 harg5 arg6 harg6 arg7 harg7 arg8 harg8 arg9 harg9 arg10 harg10 arg11 harg11 arg12 harg12 arg13) K := by
  unfold issueProg
  rw [dif_neg h4]
  iintro Hk
  sl_exec
  sl_step
  iexact Hk

/-- The last point's test, as printed. -/
abbrev drainCond (i : grid0.Coords) : BitVec 1 :=
  Scalar.cmpi .ne (Scalar.extui (Scalar.andi (Scalar.cmpi .eq (BitVec.ofNat 32 (i 0).val) 35#32) (Scalar.cmpi .eq (BitVec.ofNat 32 (i 1).val) 7#32)) : BitVec 32) 0#32

/-- Before the last point nothing is waited for. -/
theorem drain_none (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h5 : ¬ drainCond i = 1#1) (K : PUnit → sProp 𝕄) :
    K ⟨⟩ ⊢ wp frame (wpE (defs₀ (F := F)) Variants.none c none) Set.univ
          (drainProg i arg2 harg2 arg3 harg3 arg4 harg4 arg5 harg5 arg6 harg6 arg7 harg7 arg8 harg8 arg9 harg9 arg10 harg10 arg11 harg11 arg12 harg12 arg13) K := by
  unfold drainProg
  simp only []
  split
  · rename_i h; exact absurd h h5
  iintro Hk
  sl_exec
  sl_step
  iexact Hk

set_option maxHeartbeats 4000000 in
/-- At the last point the eight copies are waited for: every column block at its slab's contents, every slab back, the
    semaphore at zero. -/
theorem drain_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (h5 : drainCond i = 1#1) (hN0 : 0 < copyN arg7 arg13.sem)
    (A : Fin 8 → Vec F S1x1024x1024 .f32) (W : Waits sig Unit) (K : PUnit → sProp 𝕄) :
    iprop(copies c arg7 arg12 arg13.sem A 8 0 ∗ owes (c : Thread nD τ) 0 W
        ∗ (iprop(bigSep Finset.univ (deliv c arg7 arg12 A) ∗ semVal ((c : Thread nD τ), SemLoc.dma arg13.sem) 0
            ∗ ∃ W', owes (c : Thread nD τ) 0 W') -∗ K ⟨⟩))
      ⊢ wp frame (wpE (defs₀ (F := F)) Variants.none c none) Set.univ
          (drainProg i arg2 harg2 arg3 harg3 arg4 harg4 arg5 harg5 arg6 harg6 arg7 harg7 arg8 harg8 arg9 harg9 arg10 harg10 arg11 harg11 arg12 harg12 arg13) K := by
  unfold drainProg
  simp only []
  split
  swap
  · rename_i h; exact absurd h5 h
  rw [k0_part7_eq_skeleton]
  unfold k0_part7_skel
  simp only [bind_assoc, pure_bind]
  iintro ⟨HB, HO, Hk⟩
  iapply (Transfers.wp_waitBatch (countersEmb (U := Pipeline.UD sig nD τ)) Variants.none (c : Thread nD τ) none (srcw := (slab arg12 0).squeeze S1024x1024 squeezes_S1x1024x1024_S1024x1024) (dstw := colM arg7 0) () (N := copyN arg7 arg13.sem) rfl (D := deliv c arg7 arg12 A) (u := 0) (by omega)) $$ [HB HO]
  · isplitl [HB] <;> iassumption
  iintro ⟨HB, HO⟩
  rw [show 0 + copyN arg7 arg13.sem = 1 * copyN arg7 arg13.sem by omega]
  iapply (Transfers.wp_waitBatch (countersEmb (U := Pipeline.UD sig nD τ)) Variants.none (c : Thread nD τ) none (srcw := (slab arg12 1).squeeze S1024x1024 squeezes_S1x1024x1024_S1024x1024) (dstw := colM arg7 1) () (N := copyN arg7 arg13.sem) rfl (D := deliv c arg7 arg12 A) (u := 1 * copyN arg7 arg13.sem) (by omega)) $$ [HB HO]
  · isplitl [HB] <;> iassumption
  iintro ⟨HB, HO⟩
  rw [show 1 * copyN arg7 arg13.sem + copyN arg7 arg13.sem = 2 * copyN arg7 arg13.sem by omega]
  iapply (Transfers.wp_waitBatch (countersEmb (U := Pipeline.UD sig nD τ)) Variants.none (c : Thread nD τ) none (srcw := (slab arg12 2).squeeze S1024x1024 squeezes_S1x1024x1024_S1024x1024) (dstw := colM arg7 2) () (N := copyN arg7 arg13.sem) rfl (D := deliv c arg7 arg12 A) (u := 2 * copyN arg7 arg13.sem) (by omega)) $$ [HB HO]
  · isplitl [HB] <;> iassumption
  iintro ⟨HB, HO⟩
  rw [show 2 * copyN arg7 arg13.sem + copyN arg7 arg13.sem = 3 * copyN arg7 arg13.sem by omega]
  iapply (Transfers.wp_waitBatch (countersEmb (U := Pipeline.UD sig nD τ)) Variants.none (c : Thread nD τ) none (srcw := (slab arg12 3).squeeze S1024x1024 squeezes_S1x1024x1024_S1024x1024) (dstw := colM arg7 3) () (N := copyN arg7 arg13.sem) rfl (D := deliv c arg7 arg12 A) (u := 3 * copyN arg7 arg13.sem) (by omega)) $$ [HB HO]
  · isplitl [HB] <;> iassumption
  iintro ⟨HB, HO⟩
  rw [show 3 * copyN arg7 arg13.sem + copyN arg7 arg13.sem = 4 * copyN arg7 arg13.sem by omega]
  iapply (Transfers.wp_waitBatch (countersEmb (U := Pipeline.UD sig nD τ)) Variants.none (c : Thread nD τ) none (srcw := (slab arg12 4).squeeze S1024x1024 squeezes_S1x1024x1024_S1024x1024) (dstw := colM arg7 4) () (N := copyN arg7 arg13.sem) rfl (D := deliv c arg7 arg12 A) (u := 4 * copyN arg7 arg13.sem) (by omega)) $$ [HB HO]
  · isplitl [HB] <;> iassumption
  iintro ⟨HB, HO⟩
  rw [show 4 * copyN arg7 arg13.sem + copyN arg7 arg13.sem = 5 * copyN arg7 arg13.sem by omega]
  iapply (Transfers.wp_waitBatch (countersEmb (U := Pipeline.UD sig nD τ)) Variants.none (c : Thread nD τ) none (srcw := (slab arg12 5).squeeze S1024x1024 squeezes_S1x1024x1024_S1024x1024) (dstw := colM arg7 5) () (N := copyN arg7 arg13.sem) rfl (D := deliv c arg7 arg12 A) (u := 5 * copyN arg7 arg13.sem) (by omega)) $$ [HB HO]
  · isplitl [HB] <;> iassumption
  iintro ⟨HB, HO⟩
  rw [show 5 * copyN arg7 arg13.sem + copyN arg7 arg13.sem = 6 * copyN arg7 arg13.sem by omega]
  iapply (Transfers.wp_waitBatch (countersEmb (U := Pipeline.UD sig nD τ)) Variants.none (c : Thread nD τ) none (srcw := (slab arg12 6).squeeze S1024x1024 squeezes_S1x1024x1024_S1024x1024) (dstw := colM arg7 6) () (N := copyN arg7 arg13.sem) rfl (D := deliv c arg7 arg12 A) (u := 6 * copyN arg7 arg13.sem) (by omega)) $$ [HB HO]
  · isplitl [HB] <;> iassumption
  iintro ⟨HB, HO⟩
  rw [show 6 * copyN arg7 arg13.sem + copyN arg7 arg13.sem = 7 * copyN arg7 arg13.sem by omega]
  iapply (Transfers.wp_waitBatchLast (countersEmb (U := Pipeline.UD sig nD τ)) Variants.none (c : Thread nD τ) none (srcw := (slab arg12 7).squeeze S1024x1024 squeezes_S1x1024x1024_S1024x1024) (dstw := colM arg7 7) () (N := copyN arg7 arg13.sem) rfl hN0 (D := deliv c arg7 arg12 A) (u := 7 * copyN arg7 arg13.sem) (by omega)) $$ [HB HO]
  · isplitl [HB] <;> iassumption
  iintro ⟨HD, Hv, HO⟩
  simp only [ret_bind']
  sl_step
  iapply Hk
  isplitl [HD]; · iexact HD
  isplitl [Hv]; · iexact Hv
  iexists _; iexact HO

end Cert.KernelIdeal.Hand

end
-- ==== Proof.KITiles.lean ====
/-
  Hand-written, untrusted. A token block's eight groups of 128 columns, and what the quantisation of the block leaves:
  its codes, its scales and the dequantised block, each group's from that group alone.
-/
module

public import proofs.«01_k».proof.Proof.KIMid
public import Idealize.ShloMosaic.Lib.ValueIdxCore
public import Idealize.ShloMosaic.Lib.ValueIdxCoords
public import Idealize.ShloMosaic.Lib.Writes
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

open Idealize.ShloMosaic.ValueIdx (ix2)

/-- A 512×1024 block from its eight groups of 128 columns. -/
def tiles {α : Type} (W : Fin 8 → S512x128.Idx → α) : S512x1024.Idx → α := fun q =>
  W ⟨(q 1).val / 128, by have := (q 1).isLt; simp at this; omega⟩
    (ix2 (n0 := 512) (n1 := 128) (q 0) ⟨(q 1).val % 128, Nat.mod_lt _ (by decide)⟩)

/-- A 512×8 block from its eight columns. -/
def cols {α : Type} (W : Fin 8 → S512x1.Idx → α) : S512x8.Idx → α := fun q =>
  W (q 1) (ix2 (n0 := 512) (n1 := 1) (q 0) 0)

theorem inb_grp (j : Fin 8) : ∀ a, (![0, 128 * j.val] : Fin 2 → Nat) a + S512x128.size a ≤ S512x1024.size a := by
  revert j; decide

/-- Group `j` of a block: its columns 128·j to 128·j + 127. -/
def grp (y : Vec F S512x1024 .bf16) (j : Fin 8) : Vec F S512x128 .bf16 :=
  View.ld y (Rect.unit (s := S512x1024) ![0, 128 * j.val] S512x128.size (inb_grp j))

/-- A load at group `j`'s columns, however spelt, reads the group. -/
theorem readAt_grp {κ : Kind} {sp : Space} (v : View sig κ sp S512x1024 .bf16) (j : Fin 8) {off : Fin 2 → Nat} (h : off = ![0, 128 * j.val])
    (inb : ∀ a, off a + S512x128.size a ≤ S512x1024.size a) (f : v.ty.Contents (Elt F)) {y : Vec F S512x1024 .bf16} (hy : v.read (Elt F) f = y) :
    v.readAt (Elt F) (Rect.unit (s := S512x1024) off S512x128.size inb).toLoadRect f = grp y j := by
  subst h; subst hy; rfl

/-- The block's codes. -/
def codesOf (y : Vec F S512x1024 .bf16) : Vec F S512x1024 .i8 := tiles fun j => k0_pay4 (grp y j)
/-- The block's scales. -/
def scalesOf (y : Vec F S512x1024 .bf16) : Vec F S512x8 .f32 := cols fun j => k0_pay2 (grp y j)
/-- The dequantised block. -/
def deqOf (y : Vec F S512x1024 .bf16) : Vec F S512x1024 .bf16 := tiles fun j => k0_pay5 (grp y j)

/-- At an index of group `j` the block is the group's function. -/
theorem tiles_at {α : Type} (W : Fin 8 → S512x128.Idx → α) (j : Fin 8) (x : S512x128.Idx) (y : S512x1024.Idx)
    (h0 : (y 0).val = (x 0).val) (h1 : (y 1).val = 128 * j.val + (x 1).val) : W j x = tiles W y := by
  have hx : (x 1).val < 128 := (x 1).isLt
  have hj : j = ⟨(y 1).val / 128, by have := (y 1).isLt; simp at this; omega⟩ := Fin.ext (by simp only; omega)
  have hxx : x = ix2 (n0 := 512) (n1 := 128) (y 0) ⟨(y 1).val % 128, Nat.mod_lt _ (by decide)⟩ := by
    funext a
    match a with
    | ⟨0, _⟩ => exact Fin.ext h0.symm
    | ⟨1, _⟩ => refine Fin.ext ?_; show (x 1).val = _ % 128; omega
  unfold tiles
  rw [← hj, ← hxx]

/-- At an index of column `j` the block is the column's function. -/
theorem cols_at {α : Type} (W : Fin 8 → S512x1.Idx → α) (j : Fin 8) (x : S512x1.Idx) (y : S512x8.Idx)
    (h0 : (y 0).val = (x 0).val) (h1 : (y 1).val = j.val + (x 1).val) : W j x = cols W y := by
  have hx : (x 1).val < 1 := (x 1).isLt
  have hj : j = y 1 := Fin.ext (by omega)
  have hxx : x = ix2 (n0 := 512) (n1 := 1) (y 0) 0 := by
    funext a
    match a with
    | ⟨0, _⟩ => exact Fin.ext h0.symm
    | ⟨1, _⟩ => refine Fin.ext ?_; show (x 1).val = 0; omega
  unfold cols
  rw [← hj, ← hxx]

/-- At an index of group `j`'s box the block is the group's function. -/
theorem tiles_emb {α : Type} (W : Fin 8 → S512x128.Idx → α) (j : Fin 8) {off : Fin 2 → Nat} (h : off = ![0, 128 * j.val])
    (inb : ∀ a, off a + S512x128.size a ≤ S512x1024.size a) (x : S512x128.Idx) :
    W j x = tiles W ((Rect.unit (s := S512x1024) off S512x128.size inb).emb x) := by
  subst h
  exact tiles_at W j x _ ((ValueKit.rect_emb_unit_val _ _ _ _ _).trans (Nat.zero_add _)) (ValueKit.rect_emb_unit_val _ _ _ _ _)

/-- At an index of column `j`'s box the block is the column's function. -/
theorem cols_emb {α : Type} (W : Fin 8 → S512x1.Idx → α) (j : Fin 8) {off : Fin 2 → Nat} (h : off = ![0, j.val])
    (inb : ∀ a, off a + S512x1.size a ≤ S512x8.size a) (x : S512x1.Idx) :
    W j x = cols W ((Rect.unit (s := S512x8) off S512x1.size inb).emb x) := by
  subst h
  exact cols_at W j x _ ((ValueKit.rect_emb_unit_val _ _ _ _ _).trans (Nat.zero_add _)) (ValueKit.rect_emb_unit_val _ _ _ _ _)

/-! Every group's arithmetic is that of the first group. -/

theorem codes_pay1 (v : Vec F S512x128 .bf16) : (k0_pay12 (k0_pay6 v) (k0_pay7 v) (k0_pay8 v) k0_pay9 : Vec F S512x128 .i8) = k0_pay4 v := rfl
theorem codes_pay2 (v : Vec F S512x128 .bf16) : (k0_pay17 v : Vec F S512x128 .i8) = k0_pay4 v := rfl
theorem codes_pay3 (v : Vec F S512x128 .bf16) : (k0_pay22 v : Vec F S512x128 .i8) = k0_pay4 v := rfl
theorem codes_pay4 (v : Vec F S512x128 .bf16) : (k0_pay28 v : Vec F S512x128 .i8) = k0_pay4 v := rfl
theorem codes_pay5 (v : Vec F S512x128 .bf16) : (k0_pay34 (k0_pay30 v) (k0_pay31 v) (Scalar.ofBits .f32 0x00000000#32 : F .f32) : Vec F S512x128 .i8) = k0_pay4 v := rfl
theorem codes_pay6 (v : Vec F S512x128 .bf16) : (k0_pay41 (k0_pay38 v) (Scalar.ofBits .f32 0x42FE0000#32 : F .f32) k0_pay39 : Vec F S512x128 .i8) = k0_pay4 v := rfl
theorem codes_pay7 (v : Vec F S512x128 .bf16) : (k0_pay46 v : Vec F S512x128 .i8) = k0_pay4 v := rfl
theorem scales_pay1 (v : Vec F S512x128 .bf16) : (k0_pay10 (k0_pay7 v) (k0_pay8 v) k0_pay9 : Vec F S512x1 .f32) = k0_pay2 v := rfl
theorem scales_pay2 (v : Vec F S512x128 .bf16) : (k0_pay15 v : Vec F S512x1 .f32) = k0_pay2 v := rfl
theorem scales_pay3 (v : Vec F S512x128 .bf16) : (k0_pay20 v : Vec F S512x1 .f32) = k0_pay2 v := rfl
theorem scales_pay4 (v : Vec F S512x128 .bf16) : (k0_pay26 v : Vec F S512x1 .f32) = k0_pay2 v := rfl
theorem scales_pay5 (v : Vec F S512x128 .bf16) : (k0_pay32 (k0_pay31 v) (Scalar.ofBits .f32 0x00000000#32 : F .f32) : Vec F S512x1 .f32) = k0_pay2 v := rfl
theorem scales_pay6 (v : Vec F S512x128 .bf16) : (k0_pay37 v : Vec F S512x1 .f32) = k0_pay2 v := rfl
theorem scales_pay7 (v : Vec F S512x128 .bf16) : (k0_pay44 v : Vec F S512x1 .f32) = k0_pay2 v := rfl
theorem deq_pay1 (v : Vec F S512x128 .bf16) : (k0_pay13 (k0_pay6 v) (k0_pay7 v) (k0_pay8 v) k0_pay9 : Vec F S512x128 .bf16) = k0_pay5 v := rfl
theorem deq_pay2 (v : Vec F S512x128 .bf16) : (k0_pay18 (k0_pay15 v) (k0_pay16 v) : Vec F S512x128 .bf16) = k0_pay5 v := rfl
theorem deq_pay3 (v : Vec F S512x128 .bf16) : (k0_pay24 (k0_pay23 v) : Vec F S512x128 .bf16) = k0_pay5 v := rfl
theorem deq_pay4 (v : Vec F S512x128 .bf16) : (k0_pay29 v : Vec F S512x128 .bf16) = k0_pay5 v := rfl
theorem deq_pay5 (v : Vec F S512x128 .bf16) : (k0_pay35 (k0_pay30 v) (k0_pay31 v) (Scalar.ofBits .f32 0x00000000#32 : F .f32) : Vec F S512x128 .bf16) = k0_pay5 v := rfl
theorem deq_pay6 (v : Vec F S512x128 .bf16) : (k0_pay42 (k0_pay37 v) (k0_pay38 v) (Scalar.ofBits .f32 0x42FE0000#32 : F .f32) k0_pay39 : Vec F S512x128 .bf16) = k0_pay5 v := rfl
theorem deq_pay7 (v : Vec F S512x128 .bf16) : (k0_pay49 (k0_pay47 v) (k0_pay48 v) : Vec F S512x128 .bf16) = k0_pay5 v := rfl

/-- Eight stores, one per group of 128 columns, leave the block they make up. -/
theorem read_tiles {κ : Kind} {sp : Space} {e : EltTy} (v : View sig κ sp S512x1024 e) (f : v.ty.Contents (Elt F)) (W : Fin 8 → S512x128.Idx → Elt F e)
    {w0 w1 w2 w3 w4 w5 w6 w7 : S512x128.Idx → Elt F e} (h0 : w0 = W 0) (h1 : w1 = W 1) (h2 : w2 = W 2) (h3 : w3 = W 3) (h4 : w4 = W 4) (h5 : w5 = W 5) (h6 : w6 = W 6) (h7 : w7 = W 7) :
    v.read (Elt F) (v.writes (Elt F) f [
        ⟨Rect.unit (s := S512x1024) ![0, 896] S512x128.size inb_S512x1024_S512x128_0_896, w7⟩,
        ⟨Rect.unit (s := S512x1024) ![0, 768] S512x128.size inb_S512x1024_S512x128_0_768, w6⟩,
        ⟨Rect.unit (s := S512x1024) ![0, 640] S512x128.size inb_S512x1024_S512x128_0_640, w5⟩,
        ⟨Rect.unit (s := S512x1024) ![0, 512] S512x128.size inb_S512x1024_S512x128_0_512, w4⟩,
        ⟨Rect.unit (s := S512x1024) ![0, 384] S512x128.size inb_S512x1024_S512x128_0_384, w3⟩,
        ⟨Rect.unit (s := S512x1024) ![0, 256] S512x128.size inb_S512x1024_S512x128_0_256, w2⟩,
        ⟨Rect.unit (s := S512x1024) ![0, 128] S512x128.size inb_S512x1024_S512x128_0_128, w1⟩,
        ⟨Rect.unit (s := S512x1024) ![0, 0] S512x128.size inb_S512x1024_S512x128_0_0, w0⟩]) = tiles W := by
  subst h0 h1 h2 h3 h4 h5 h6 h7
  funext q
  refine View.read_writes_apply_of_pieces v f (tiles W) _ ?_ q ?_
  · intro p hp
    simp only [List.mem_cons, List.not_mem_nil, _root_.or_false] at hp
    rcases hp with rfl | rfl | rfl | rfl | rfl | rfl | rfl | rfl
    · exact fun x => tiles_emb W 7 rfl inb_S512x1024_S512x128_0_896 x
    · exact fun x => tiles_emb W 6 rfl inb_S512x1024_S512x128_0_768 x
    · exact fun x => tiles_emb W 5 rfl inb_S512x1024_S512x128_0_640 x
    · exact fun x => tiles_emb W 4 rfl inb_S512x1024_S512x128_0_512 x
    · exact fun x => tiles_emb W 3 rfl inb_S512x1024_S512x128_0_384 x
    · exact fun x => tiles_emb W 2 rfl inb_S512x1024_S512x128_0_256 x
    · exact fun x => tiles_emb W 1 rfl inb_S512x1024_S512x128_0_128 x
    · exact fun x => tiles_emb W 0 rfl inb_S512x1024_S512x128_0_0 x
  · have hq : (q 1).val < 1024 := (q 1).isLt
    have h0 : (q 0).val < 512 := (q 0).isLt
    simp only [List.exists_mem_cons_iff, List.not_mem_nil, _root_.false_and, exists_false, _root_.or_false, Rect.mem_set_unit]
    have key : ∀ k, k ≤ (q 1).val → (q 1).val < k + 128 → ∀ a : Fin 2, (![0, k] : Fin 2 → Nat) a ≤ (q a).val ∧ (q a).val < (![0, k] : Fin 2 → Nat) a + S512x128.size a := by
      intro k hk hk' a
      match a with
      | ⟨0, _⟩ => exact ⟨Nat.zero_le _, h0.trans_le (Nat.le_add_left _ _)⟩
      | ⟨1, _⟩ => exact ⟨hk, hk'⟩
    rcases (by omega : (896 ≤ (q 1).val ∧ (q 1).val < 1024) ∨ (768 ≤ (q 1).val ∧ (q 1).val < 896) ∨ (640 ≤ (q 1).val ∧ (q 1).val < 768) ∨ (512 ≤ (q 1).val ∧ (q 1).val < 640) ∨ (384 ≤ (q 1).val ∧ (q 1).val < 512) ∨ (256 ≤ (q 1).val ∧ (q 1).val < 384) ∨ (128 ≤ (q 1).val ∧ (q 1).val < 256) ∨ (0 ≤ (q 1).val ∧ (q 1).val < 128)) with ⟨h, h'⟩ | ⟨h, h'⟩ | ⟨h, h'⟩ | ⟨h, h'⟩ | ⟨h, h'⟩ | ⟨h, h'⟩ | ⟨h, h'⟩ | ⟨h, h'⟩
    · exact .inl (key _ h h')
    · exact .inr (.inl (key _ h h'))
    · exact .inr (.inr (.inl (key _ h h')))
    · exact .inr (.inr (.inr (.inl (key _ h h'))))
    · exact .inr (.inr (.inr (.inr (.inl (key _ h h')))))
    · exact .inr (.inr (.inr (.inr (.inr (.inl (key _ h h'))))))
    · exact .inr (.inr (.inr (.inr (.inr (.inr (.inl (key _ h h')))))))
    · exact .inr (.inr (.inr (.inr (.inr (.inr (.inr (key _ h h')))))))

/-- Eight stores, one per column, leave the block they make up. -/
theorem read_cols {κ : Kind} {sp : Space} {e : EltTy} (v : View sig κ sp S512x8 e) (f : v.ty.Contents (Elt F)) (W : Fin 8 → S512x1.Idx → Elt F e)
    {w0 w1 w2 w3 w4 w5 w6 w7 : S512x1.Idx → Elt F e} (h0 : w0 = W 0) (h1 : w1 = W 1) (h2 : w2 = W 2) (h3 : w3 = W 3) (h4 : w4 = W 4) (h5 : w5 = W 5) (h6 : w6 = W 6) (h7 : w7 = W 7) :
    v.read (Elt F) (v.writes (Elt F) f [
        ⟨Rect.unit (s := S512x8) ![0, 7] S512x1.size inb_S512x8_S512x1_0_7, w7⟩,
        ⟨Rect.unit (s := S512x8) ![0, 6] S512x1.size inb_S512x8_S512x1_0_6, w6⟩,
        ⟨Rect.unit (s := S512x8) ![0, 5] S512x1.size inb_S512x8_S512x1_0_5, w5⟩,
        ⟨Rect.unit (s := S512x8) ![0, 4] S512x1.size inb_S512x8_S512x1_0_4, w4⟩,
        ⟨Rect.unit (s := S512x8) ![0, 3] S512x1.size inb_S512x8_S512x1_0_3, w3⟩,
        ⟨Rect.unit (s := S512x8) ![0, 2] S512x1.size inb_S512x8_S512x1_0_2, w2⟩,
        ⟨Rect.unit (s := S512x8) ![0, 1] S512x1.size inb_S512x8_S512x1_0_1, w1⟩,
        ⟨Rect.unit (s := S512x8) ![0, 0] S512x1.size inb_S512x8_S512x1_0_0, w0⟩]) = cols W := by
  subst h0 h1 h2 h3 h4 h5 h6 h7
  funext q
  refine View.read_writes_apply_of_pieces v f (cols W) _ ?_ q ?_
  · intro p hp
    simp only [List.mem_cons, List.not_mem_nil, _root_.or_false] at hp
    rcases hp with rfl | rfl | rfl | rfl | rfl | rfl | rfl | rfl
    · exact fun x => cols_emb W 7 rfl inb_S512x8_S512x1_0_7 x
    · exact fun x => cols_emb W 6 rfl inb_S512x8_S512x1_0_6 x
    · exact fun x => cols_emb W 5 rfl inb_S512x8_S512x1_0_5 x
    · exact fun x => cols_emb W 4 rfl inb_S512x8_S512x1_0_4 x
    · exact fun x => cols_emb W 3 rfl inb_S512x8_S512x1_0_3 x
    · exact fun x => cols_emb W 2 rfl inb_S512x8_S512x1_0_2 x
    · exact fun x => cols_emb W 1 rfl inb_S512x8_S512x1_0_1 x
    · exact fun x => cols_emb W 0 rfl inb_S512x8_S512x1_0_0 x
  · have hq : (q 1).val < 8 := (q 1).isLt
    have h0 : (q 0).val < 512 := (q 0).isLt
    simp only [List.exists_mem_cons_iff, List.not_mem_nil, _root_.false_and, exists_false, _root_.or_false, Rect.mem_set_unit]
    have key : ∀ k, k ≤ (q 1).val → (q 1).val < k + 1 → ∀ a : Fin 2, (![0, k] : Fin 2 → Nat) a ≤ (q a).val ∧ (q a).val < (![0, k] : Fin 2 → Nat) a + S512x1.size a := by
      intro k hk hk' a
      match a with
      | ⟨0, _⟩ => exact ⟨Nat.zero_le _, h0.trans_le (Nat.le_add_left _ _)⟩
      | ⟨1, _⟩ => exact ⟨hk, hk'⟩
    rcases (by omega : (7 ≤ (q 1).val ∧ (q 1).val < 8) ∨ (6 ≤ (q 1).val ∧ (q 1).val < 7) ∨ (5 ≤ (q 1).val ∧ (q 1).val < 6) ∨ (4 ≤ (q 1).val ∧ (q 1).val < 5) ∨ (3 ≤ (q 1).val ∧ (q 1).val < 4) ∨ (2 ≤ (q 1).val ∧ (q 1).val < 3) ∨ (1 ≤ (q 1).val ∧ (q 1).val < 2) ∨ (0 ≤ (q 1).val ∧ (q 1).val < 1)) with ⟨h, h'⟩ | ⟨h, h'⟩ | ⟨h, h'⟩ | ⟨h, h'⟩ | ⟨h, h'⟩ | ⟨h, h'⟩ | ⟨h, h'⟩ | ⟨h, h'⟩
    · exact .inl (key _ h h')
    · exact .inr (.inl (key _ h h'))
    · exact .inr (.inr (.inl (key _ h h')))
    · exact .inr (.inr (.inr (.inl (key _ h h'))))
    · exact .inr (.inr (.inr (.inr (.inl (key _ h h')))))
    · exact .inr (.inr (.inr (.inr (.inr (.inl (key _ h h'))))))
    · exact .inr (.inr (.inr (.inr (.inr (.inr (.inl (key _ h h')))))))
    · exact .inr (.inr (.inr (.inr (.inr (.inr (.inr (key _ h h')))))))

end Cert.KernelIdeal.Hand

end
-- ==== Proof.KIQuant.lean ====
/-
  Hand-written, untrusted. What the quantisation of a token block stores: `quant_spec`.
-/
module

public import proofs.«01_k».proof.Proof.KITiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

set_option maxHeartbeats 1000000 in
/-- The quantisation leaves the block's codes, its scales, the dequantised block, and the block transposed. -/
theorem quant_spec (c : Dev nD) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_)
    (y : Vec F S512x1024 .bf16) (K : PUnit → sProp 𝕄) :
    iprop(owns (c : Thread nD τ) arg4 fullShare y
        ∗ (∃ x, owns (c : Thread nD τ) arg8 fullShare x) ∗ (∃ x, owns (c : Thread nD τ) arg9 fullShare x)
        ∗ (∃ x, owns (c : Thread nD τ) arg10 fullShare x) ∗ (∃ x, owns (c : Thread nD τ) arg11 fullShare x)
        ∗ (iprop(owns (c : Thread nD τ) arg4 fullShare y ∗ owns (c : Thread nD τ) arg8 fullShare (codesOf y)
            ∗ owns (c : Thread nD τ) arg9 fullShare (scalesOf y) ∗ owns (c : Thread nD τ) arg10 fullShare (deqOf y)
            ∗ owns (c : Thread nD τ) arg11 fullShare (k0_pay50 y)) -∗ K ⟨⟩))
      ⊢ wp frame (wpE (defs₀ (F := F)) Variants.none c none) Set.univ
          (quantProg i arg2 harg2 arg3 harg3 arg4 harg4 arg5 harg5 arg6 harg6 arg7 harg7 arg8 harg8 arg9 harg9 arg10 harg10 arg11 harg11 arg12 harg12 arg13) K := by
  unfold quantProg owns
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  iintro ⟨⟨%f4, %e4, H4⟩, ⟨%x8, %f8, %e8, H8⟩, ⟨%x9, %f9, %e9, H9⟩, ⟨%x10, %f10, %e10, H10⟩, ⟨%x11, %f11, %e11, H11⟩, Hk⟩
  sl_exec
  sl_step
  iapply Hk
  isplitl [H4]; · iexists _; isplitr; swap; · iexact H4
                  ipureintro; exact e4
  have g0 : arg4.view.readAt (Elt F) (Rect.unit (s := S512x1024) ![0, 0] S512x128.size inb_S512x1024_S512x128_0_0).toLoadRect f4 = grp y 0 :=
    readAt_grp arg4.view 0 rfl inb_S512x1024_S512x128_0_0 f4 e4
  have g1 : arg4.view.readAt (Elt F) (Rect.unit (s := S512x1024) ![0, 128] S512x128.size inb_S512x1024_S512x128_0_128).toLoadRect f4 = grp y 1 :=
    readAt_grp arg4.view 1 rfl inb_S512x1024_S512x128_0_128 f4 e4
  have g2 : arg4.view.readAt (Elt F) (Rect.unit (s := S512x1024) ![0, 256] S512x128.size inb_S512x1024_S512x128_0_256).toLoadRect f4 = grp y 2 :=
    readAt_grp arg4.view 2 rfl inb_S512x1024_S512x128_0_256 f4 e4
  have g3 : arg4.view.readAt (Elt F) (Rect.unit (s := S512x1024) ![0, 384] S512x128.size inb_S512x1024_S512x128_0_384).toLoadRect f4 = grp y 3 :=
    readAt_grp arg4.view 3 rfl inb_S512x1024_S512x128_0_384 f4 e4
  have g4 : arg4.view.readAt (Elt F) (Rect.unit (s := S512x1024) ![0, 512] S512x128.size inb_S512x1024_S512x128_0_512).toLoadRect f4 = grp y 4 :=
    readAt_grp arg4.view 4 rfl inb_S512x1024_S512x128_0_512 f4 e4
  have g5 : arg4.view.readAt (Elt F) (Rect.unit (s := S512x1024) ![0, 640] S512x128.size inb_S512x1024_S512x128_0_640).toLoadRect f4 = grp y 5 :=
    readAt_grp arg4.view 5 rfl inb_S512x1024_S512x128_0_640 f4 e4
  have g6 : arg4.view.readAt (Elt F) (Rect.unit (s := S512x1024) ![0, 768] S512x128.size inb_S512x1024_S512x128_0_768).toLoadRect f4 = grp y 6 :=
    readAt_grp arg4.view 6 rfl inb_S512x1024_S512x128_0_768 f4 e4
  have g7 : arg4.view.readAt (Elt F) (Rect.unit (s := S512x1024) ![0, 896] S512x128.size inb_S512x1024_S512x128_0_896).toLoadRect f4 = grp y 7 :=
    readAt_grp arg4.view 7 rfl inb_S512x1024_S512x128_0_896 f4 e4
  isplitl [H8]; · iexists _; isplitr; swap; · iexact H8
                  ipureintro
                  refine read_tiles arg8.view f8 (fun j => k0_pay4 (grp y j)) ?_ ?_ ?_ ?_ ?_ ?_ ?_ ?_
                  · rw [g0]
                  · dsimp only; rw [g1]; exact codes_pay1 (grp y 1)
                  · dsimp only; rw [g2]; exact codes_pay2 (grp y 2)
                  · dsimp only; rw [g3]; exact codes_pay3 (grp y 3)
                  · dsimp only; rw [g4]; exact codes_pay4 (grp y 4)
                  · dsimp only; rw [g5]; exact codes_pay5 (grp y 5)
                  · dsimp only; rw [g6]; exact codes_pay6 (grp y 6)
                  · dsimp only; rw [g7]; exact codes_pay7 (grp y 7)
  isplitl [H9]; · iexists _; isplitr; swap; · iexact H9
                  ipureintro
                  refine read_cols arg9.view f9 (fun j => k0_pay2 (grp y j)) ?_ ?_ ?_ ?_ ?_ ?_ ?_ ?_
                  · rw [g0]
                  · dsimp only; rw [g1]; exact scales_pay1 (grp y 1)
                  · dsimp only; rw [g2]; exact scales_pay2 (grp y 2)
                  · dsimp only; rw [g3]; exact scales_pay3 (grp y 3)
                  · dsimp only; rw [g4]; exact scales_pay4 (grp y 4)
                  · dsimp only; rw [g5]; exact scales_pay5 (grp y 5)
                  · dsimp only; rw [g6]; exact scales_pay6 (grp y 6)
                  · dsimp only; rw [g7]; exact scales_pay7 (grp y 7)
  isplitl [H10]; · iexists _; isplitr; swap; · iexact H10
                   ipureintro
                   refine read_tiles arg10.view f10 (fun j => k0_pay5 (grp y j)) ?_ ?_ ?_ ?_ ?_ ?_ ?_ ?_
                   · rw [g0]
                   · dsimp only; rw [g1]; exact deq_pay1 (grp y 1)
                   · dsimp only; rw [g2]; exact deq_pay2 (grp y 2)
                   · dsimp only; rw [g3]; exact deq_pay3 (grp y 3)
                   · dsimp only; rw [g4]; exact deq_pay4 (grp y 4)
                   · dsimp only; rw [g5]; exact deq_pay5 (grp y 5)
                   · dsimp only; rw [g6]; exact deq_pay6 (grp y 6)
                   · dsimp only; rw [g7]; exact deq_pay7 (grp y 7)
  iexists _; isplitr; swap; · iexact H11
  ipureintro
  rw [View.read_writes_full, View.readAt_full, e4]

end Cert.KernelIdeal.Hand

end
-- ==== Proof.KIVal.lean ====
/-
  Hand-written, untrusted. The values along the grid, generic in the float type: the blocks of the arguments each point
  reads, the accumulator of a column after each token block, and what the grid point's conditions say.
-/
module

public import proofs.«01_k».proof.Proof.KIIssue
public import proofs.«01_k».proof.Proof.KIQuant
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## The grid point's conditions -/

theorem cond1_iff : ∀ t : Fin grid0.N, k0_cond1 (grid0.coords t) = 1#1 ↔ t.val % 8 = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ 8 ≤ t.val := by decide +kernel
theorem cond4_iff : ∀ t : Fin grid0.N, k0_cond4 (grid0.coords t) = 1#1 ↔ 280 ≤ t.val := by decide +kernel
theorem drain_iff : ∀ t : Fin grid0.N, drainCond (grid0.coords t) = 1#1 ↔ t.val = 287 := by decide +kernel
theorem col_val : ∀ t : Fin grid0.N, (grid0.coords t 1).val = t.val % 8 := by decide +kernel
theorem row_val : ∀ t : Fin grid0.N, (grid0.coords t 0).val = t.val / 8 := by decide +kernel

/-! ## Blocks and accumulators -/

/-- Point number `n` of the grid. -/
def pt (n : ℕ) : Fin cfg0.N := ⟨n % 288, Nat.lt_of_lt_of_eq (Nat.mod_lt _ (by decide)) Gen.N_0.symm⟩

theorem pt_of (t : Fin cfg0.N) (n : ℕ) (h : n = t.val) : pt n = t :=
  Fin.ext (by subst h; exact Nat.mod_eq_of_lt (Nat.lt_of_lt_of_eq t.isLt Gen.N_0))

/-- Token block `b`'s rows of the gradient. -/
def yb (c : Dev nD) (b : ℕ) : Vec F S512x1024 .bf16 := Gen.iblk m c 2 (pt (8 * b))

/-- Token block `b`'s rows of the activations, column block `j`. -/
def xb (c : Dev nD) (b : ℕ) (j : Fin 8) : Vec F S512x1024 .bf16 := Gen.iblk m c 1 (pt (8 * b + j.val))

/-- The accumulator's slab `j` after token blocks 0 to `b`. -/
def accV (c : Dev nD) (j : Fin 8) : ℕ → Vec F S1x1024x1024 .f32
  | 0 => k0_pay53 (k0_pay50 (yb m c 0)) (xb m c 0 j)
  | b + 1 => k0_pay54 (k0_pay50 (yb m c (b + 1))) (xb m c (b + 1) j) (accV c j b)

/-- The accumulator's slabs after the last token block. -/
def accEnd (c : Dev nD) (j : Fin 8) : Vec F S1x1024x1024 .f32 := accV m c j 35

/-- Slab `j` before point `t`: nothing known before its first token block, then the accumulator so far. -/
def slabSt (c : Dev nD) (M : Memref sig .tc .vmem S8x1024x1024 .f32) (t : ℕ) (j : Fin 8) : sProp 𝕄 :=
  match (t + 7 - j.val) / 8 with
  | 0 => iprop(∃ a, owns (c : Thread nD τ) (slab M j) fullShare a)
  | n + 1 => owns (c : Thread nD τ) (slab M j) fullShare (accV m c j n)

/-- Column `j`'s slab and its column block of the weight gradient before point `t`, unless its copy is started. -/
def heldSt (c : Dev nD) (M7 : Memref sig .tc .hbm S1024x8192 .f32) (M12 : Memref sig .tc .vmem S8x1024x1024 .f32) (t : ℕ) (j : Fin 8) : sProp 𝕄 :=
  if 280 + j.val < t then iprop(emp) else iprop(slabSt m c M12 t j ∗ ∃ x, owns (c : Thread nD τ) (colM M7 j) fullShare x)

/-- The semaphore before point `t`: at zero; at the last token block the copies started so far; after the last point at
    zero again with every copy delivered. -/
def semSt (c : Dev nD) (M7 : Memref sig .tc .hbm S1024x8192 .f32) (M12 : Memref sig .tc .vmem S8x1024x1024 .f32) (s : DmaSem sig) (t : ℕ) : sProp 𝕄 :=
  if t ≤ 280 then semVal ((c : Thread nD τ), SemLoc.dma s) 0
  else if t ≤ 287 then copies c M7 M12 s (accEnd m c) (t - 280) 0
  else iprop(bigSep Finset.univ (deliv c M7 M12 (accEnd m c)) ∗ semVal ((c : Thread nD τ), SemLoc.dma s) 0)

/-- The semaphore at point `t` between the start of its copy and the wait. -/
def midSt (c : Dev nD) (M7 : Memref sig .tc .hbm S1024x8192 .f32) (M12 : Memref sig .tc .vmem S8x1024x1024 .f32) (s : DmaSem sig) (t : ℕ) : sProp 𝕄 :=
  if t < 280 then semVal ((c : Thread nD τ), SemLoc.dma s) 0 else copies c M7 M12 s (accEnd m c) (t - 279) 0

/-- The dequantised gradient block held before point `t`: nothing known at the start. -/
def deqSt (c : Dev nD) (M : Memref sig .tc .vmem S512x1024 .bf16) (t : ℕ) : sProp 𝕄 :=
  if t = 0 then iprop(∃ x, owns (c : Thread nD τ) M fullShare x) else owns (c : Thread nD τ) M fullShare (deqOf (yb m c ((t - 1) / 8)))

/-- The transposed gradient block held before point `t`: nothing known at the start. -/
def dytSt (c : Dev nD) (M : Memref sig .tc .vmem S1024x512 .bf16) (t : ℕ) : sProp 𝕄 :=
  if t = 0 then iprop(∃ x, owns (c : Thread nD τ) M fullShare x) else owns (c : Thread nD τ) M fullShare (k0_pay50 (yb m c ((t - 1) / 8)))

theorem deqSt_any (c : Dev nD) (M : Memref sig .tc .vmem S512x1024 .bf16) (t : ℕ) :
    deqSt m c M t ⊢ iprop(∃ x, owns (c : Thread nD τ) M fullShare x) := by
  unfold deqSt
  split
  · exact .rfl
  · iintro H; iexists _; iexact H
theorem dytSt_any (c : Dev nD) (M : Memref sig .tc .vmem S1024x512 .bf16) (t : ℕ) :
    dytSt m c M t ⊢ iprop(∃ x, owns (c : Thread nD τ) M fullShare x) := by
  unfold dytSt
  split
  · exact .rfl
  · iintro H; iexists _; iexact H

section States
variable (c : Dev nD) (M7 : Memref sig .tc .hbm S1024x8192 .f32) (M12 : Memref sig .tc .vmem S8x1024x1024 .f32) (s : DmaSem sig)

theorem slabSt_zero (t : ℕ) (j : Fin 8) (h : t ≤ j.val) :
    slabSt m c M12 t j = iprop(∃ a, owns (c : Thread nD τ) (slab M12 j) fullShare a) := by
  unfold slabSt; rw [show (t + 7 - j.val) / 8 = 0 by omega]
theorem slabSt_succ (t : ℕ) (j : Fin 8) (n : ℕ) (h : (t + 7 - j.val) / 8 = n + 1) :
    slabSt m c M12 t j = owns (c : Thread nD τ) (slab M12 j) fullShare (accV m c j n) := by
  unfold slabSt; rw [h]
theorem heldSt_live (t : ℕ) (j : Fin 8) (h : t ≤ 280 + j.val) :
    heldSt m c M7 M12 t j = iprop(slabSt m c M12 t j ∗ ∃ x, owns (c : Thread nD τ) (colM M7 j) fullShare x) := by
  unfold heldSt; rw [if_neg (by omega)]
theorem heldSt_gone (t : ℕ) (j : Fin 8) (h : 280 + j.val < t) : heldSt m c M7 M12 t j = iprop(emp) := by
  unfold heldSt; rw [if_pos h]
theorem semSt_zero (t : ℕ) (h : t ≤ 280) : semSt m c M7 M12 s t = semVal ((c : Thread nD τ), SemLoc.dma s) 0 := by
  unfold semSt; rw [if_pos h]
theorem semSt_fly (t : ℕ) (h : 280 < t) (h' : t ≤ 287) : semSt m c M7 M12 s t = copies c M7 M12 s (accEnd m c) (t - 280) 0 := by
  unfold semSt; rw [if_neg (by omega), if_pos h']
theorem semSt_end (t : ℕ) (h : t = 288) : semSt m c M7 M12 s t
    = iprop(bigSep Finset.univ (deliv c M7 M12 (accEnd m c)) ∗ semVal ((c : Thread nD τ), SemLoc.dma s) 0) := by
  unfold semSt; rw [if_neg (by omega), if_neg (by omega)]
theorem midSt_zero (t : ℕ) (h : t < 280) : midSt m c M7 M12 s t = semVal ((c : Thread nD τ), SemLoc.dma s) 0 := by
  unfold midSt; rw [if_pos h]
theorem midSt_fly (t k : ℕ) (h : 280 ≤ t) (hk : k = t - 279) : midSt m c M7 M12 s t = copies c M7 M12 s (accEnd m c) k 0 := by
  unfold midSt; rw [if_neg (by omega), hk]

end States

/-- A column's state changes only at its own points. -/
theorem heldSt_next (c : Dev nD) (M7 M12) (t : ℕ) (j : Fin 8) (h : j.val ≠ t % 8) (ht : t < 288) :
    heldSt m c M7 M12 t j = heldSt m c M7 M12 (t + 1) j := by
  unfold heldSt slabSt
  have hj := j.isLt
  rw [show (t + 1 + 7 - j.val) / 8 = (t + 7 - j.val) / 8 by omega]
  by_cases hc : 280 + j.val < t
  · rw [if_pos hc, if_pos (by omega)]
  · rw [if_neg hc, if_neg (by omega)]

end Cert.KernelIdeal.Hand

end
-- ==== Proof.KIStage.lean ====
/-
  Hand-written, untrusted. The kernel's five steps at a grid point, each stated over the state the point finds and the
  state it leaves.
-/
module

public import proofs.«01_k».proof.Proof.KIVal

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

theorem N288 (t : Fin cfg0.N) : t.val < 288 := Nat.lt_of_lt_of_eq t.isLt Gen.N_0

theorem yb_here (c : Dev nD) (t : Fin cfg0.N) (h : t.val % 8 = 0) : yb m c (t.val / 8) = Gen.iblk m c 2 t := by
  unfold yb; rw [pt_of t _ (by omega)]

theorem xb_here (c : Dev nD) (t : Fin cfg0.N) : xb m c (t.val / 8) (grid0.coords t 1) = Gen.iblk m c 1 t := by
  unfold xb; rw [pt_of t _ (by have := col_val t; omega)]

set_option maxHeartbeats 2000000 in
/-- The gradient block is quantised at the first column point of its token block. -/
theorem quant_first (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t) (h0 : t.val % 8 = 0) (K : PUnit → sProp 𝕄) :
    iprop(owns (c : Thread nD τ) arg4 fullShare (Gen.iblk m c 2 t) ∗ (∃ x, owns (c : Thread nD τ) arg8 fullShare x) ∗ (∃ x, owns (c : Thread nD τ) arg9 fullShare x)
        ∗ deqSt m c arg10 t.val ∗ dytSt m c arg11 t.val
        ∗ (iprop(owns (c : Thread nD τ) arg4 fullShare (Gen.iblk m c 2 t) ∗ owns (c : Thread nD τ) arg8 fullShare (codesOf (yb m c (t.val / 8)))
            ∗ owns (c : Thread nD τ) arg9 fullShare (scalesOf (yb m c (t.val / 8)))
            ∗ owns (c : Thread nD τ) arg10 fullShare (deqOf (yb m c (t.val / 8))) ∗ owns (c : Thread nD τ) arg11 fullShare (k0_pay50 (yb m c (t.val / 8)))) -∗ K ⟨⟩))
      ⊢ wp frame (wpE (defs₀ (F := F)) Variants.none c none) Set.univ
          (if k0_cond1 i = 1#1 then quantProg i arg2 harg2 arg3 harg3 arg4 harg4 arg5 harg5 arg6 harg6 arg7 harg7 arg8 harg8 arg9 harg9 arg10 harg10 arg11 harg11 arg12 harg12 arg13 else pure ⟨⟩) K := by
  subst hi
  rw [if_pos ((cond1_iff t).mpr h0)]
  rw [yb_here m c t h0]
  iintro ⟨H4, H8, H9, Hd, Ht, Hk⟩
  iapply (quant_spec c _ arg2 harg2 arg3 harg3 arg4 harg4 arg5 harg5 arg6 harg6 arg7 harg7 arg8 harg8 arg9 harg9 arg10 harg10 arg11 harg11 arg12 harg12 arg13 (Gen.iblk m c 2 t) K)
  isplitl [H4]; · iexact H4
  isplitl [H8]; · iexact H8
  isplitl [H9]; · iexact H9
  isplitl [Hd]
  · iapply (deqSt_any m c arg10 t.val); iexact Hd
  isplitl [Ht]
  · iapply (dytSt_any m c arg11 t.val); iexact Ht
  iexact Hk
set_option maxHeartbeats 2000000 in
/-- At the other column points the quantised block stays. -/
theorem quant_next (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t) (h0 : ¬ t.val % 8 = 0) (K : PUnit → sProp 𝕄) :
    iprop(deqSt m c arg10 t.val ∗ dytSt m c arg11 t.val
        ∗ (iprop(owns (c : Thread nD τ) arg10 fullShare (deqOf (yb m c (t.val / 8))) ∗ owns (c : Thread nD τ) arg11 fullShare (k0_pay50 (yb m c (t.val / 8)))) -∗ K ⟨⟩))
      ⊢ wp frame (wpE (defs₀ (F := F)) Variants.none c none) Set.univ
          (if k0_cond1 i = 1#1 then quantProg i arg2 harg2 arg3 harg3 arg4 harg4 arg5 harg5 arg6 harg6 arg7 harg7 arg8 harg8 arg9 harg9 arg10 harg10 arg11 harg11 arg12 harg12 arg13 else pure ⟨⟩) K := by
  subst hi
  rw [if_neg (fun h => h0 ((cond1_iff t).mp h))]
  unfold deqSt dytSt
  rw [if_neg (by omega), if_neg (by omega), show (t.val - 1) / 8 = t.val / 8 by omega]
  iintro ⟨Hd, Ht, Hk⟩
  sl_step
  iapply Hk
  isplitl [Hd]; · iexact Hd
  iexact Ht
set_option maxHeartbeats 2000000 in
/-- The point adds its product to its column's accumulator. -/
theorem mid_stage (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t)  (K : PUnit → sProp 𝕄) :
    iprop(owns (c : Thread nD τ) arg3 fullShare (Gen.iblk m c 1 t) ∗ owns (c : Thread nD τ) arg11 fullShare (k0_pay50 (yb m c (t.val / 8)))
        ∗ slabSt m c arg12 t.val (i 1)
        ∗ (iprop(owns (c : Thread nD τ) arg3 fullShare (Gen.iblk m c 1 t) ∗ owns (c : Thread nD τ) arg11 fullShare (k0_pay50 (yb m c (t.val / 8)))
            ∗ owns (c : Thread nD τ) (slab arg12 (i 1)) fullShare (accV m c (i 1) (t.val / 8))) -∗ K ⟨⟩))
      ⊢ wp frame (wpE (defs₀ (F := F)) Variants.none c none) Set.univ
          (midProg i arg2 harg2 arg3 harg3 arg4 harg4 arg5 harg5 arg6 harg6 arg7 harg7 arg8 harg8 arg9 harg9 arg10 harg10 arg11 harg11 arg12 harg12 arg13) K := by
  subst hi
  have hc := col_val t
  have hN := N288 t
  rw [← xb_here m c t]
  by_cases h : t.val < 8
  · rw [slabSt_zero m c arg12 t.val (grid0.coords t 1) (by omega), show t.val / 8 = 0 by omega]
    exact mid_first c _ arg2 harg2 arg3 harg3 arg4 harg4 arg5 harg5 arg6 harg6 arg7 harg7 arg8 harg8 arg9 harg9 arg10 harg10 arg11 harg11 arg12 harg12 arg13 ((cond2_iff t).mpr h) (fun h' => absurd ((cond3_iff t).mp h') (by omega)) (xb m c 0 (grid0.coords t 1)) (k0_pay50 (yb m c 0)) K
  · obtain ⟨b, hb⟩ : ∃ b, t.val / 8 = b + 1 := ⟨t.val / 8 - 1, by omega⟩
    rw [slabSt_succ m c arg12 t.val (grid0.coords t 1) b (by omega), hb]
    exact mid_next c _ arg2 harg2 arg3 harg3 arg4 harg4 arg5 harg5 arg6 harg6 arg7 harg7 arg8 harg8 arg9 harg9 arg10 harg10 arg11 harg11 arg12 harg12 arg13 (fun h' => absurd ((cond2_iff t).mp h') (by omega)) ((cond3_iff t).mpr (by omega)) (xb m c (b + 1) (grid0.coords t 1)) (k0_pay50 (yb m c (b + 1))) (accV m c (grid0.coords t 1) b) K
set_option maxHeartbeats 2000000 in
/-- The point starts its column's copy if its token block is the last; else it keeps the column. -/
theorem issue_stage (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t)  (K : PUnit → sProp 𝕄) :
    iprop(owns (c : Thread nD τ) (slab arg12 (i 1)) fullShare (accV m c (i 1) (t.val / 8)) ∗ (∃ x, owns (c : Thread nD τ) (colM arg7 (i 1)) fullShare x)
        ∗ semSt m c arg7 arg12 arg13.sem t.val
        ∗ (iprop(heldSt m c arg7 arg12 (t.val + 1) (i 1) ∗ midSt m c arg7 arg12 arg13.sem t.val) -∗ K ⟨⟩))
      ⊢ wp frame (wpE (defs₀ (F := F)) Variants.none c none) Set.univ
          (issueProg i arg2 harg2 arg3 harg3 arg4 harg4 arg5 harg5 arg6 harg6 arg7 harg7 arg8 harg8 arg9 harg9 arg10 harg10 arg11 harg11 arg12 harg12 arg13) K := by
  subst hi
  have hc := col_val t
  have hN := N288 t
  by_cases h : t.val < 280
  · rw [semSt_zero m c arg7 arg12 arg13.sem t.val (by omega), midSt_zero m c arg7 arg12 arg13.sem t.val (by omega),
      heldSt_live m c arg7 arg12 (t.val + 1) (grid0.coords t 1) (by omega),
      slabSt_succ m c arg12 (t.val + 1) (grid0.coords t 1) (t.val / 8) (by omega)]
    iintro ⟨Hs, Hd, Hm, Hk⟩
    iapply (issue_none c _ arg2 harg2 arg3 harg3 arg4 harg4 arg5 harg5 arg6 harg6 arg7 harg7 arg8 harg8 arg9 harg9 arg10 harg10 arg11 harg11 arg12 harg12 arg13 (fun h' => absurd ((cond4_iff t).mp h') (by omega)) K)
    iapply Hk
    isplitl [Hs Hd]
    · isplitl [Hs]; · iexact Hs
      iexact Hd
    iexact Hm
  · have hA : accV m c (grid0.coords t 1) (t.val / 8) = accEnd m c (grid0.coords t 1) := by
      unfold accEnd; rw [show t.val / 8 = 35 by omega]
    rw [hA, heldSt_gone m c arg7 arg12 (t.val + 1) (grid0.coords t 1) (by omega),
      midSt_fly m c arg7 arg12 arg13.sem t.val ((grid0.coords t 1).val + 1) (by omega) (by omega)]
    by_cases h' : t.val = 280
    · have hz : (grid0.coords t 1).val = 0 := by omega
      rw [semSt_zero m c arg7 arg12 arg13.sem t.val (by omega)]
      have hal : (semVal ((c : Thread nD τ), SemLoc.dma arg13.sem) 0 : sProp 𝕄)
          ⊢ |={Set.univ}=> copies c arg7 arg12 arg13.sem (accEnd m c) (grid0.coords t 1).val 0 := by
        rw [hz]; exact copies_alloc c arg7 arg12 arg13.sem (accEnd m c)
      iintro ⟨Hs, Hd, Hm, Hk⟩
      imod hal $$ Hm with Hm
      iapply (issue_spec c _ arg2 harg2 arg3 harg3 arg4 harg4 arg5 harg5 arg6 harg6 arg7 harg7 arg8 harg8 arg9 harg9 arg10 harg10 arg11 harg11 arg12 harg12 arg13 ((cond4_iff t).mpr (by omega)) (accEnd m c) K)
      isplitl [Hs]; · iexact Hs
      isplitl [Hd]; · iexact Hd
      isplitl [Hm]; · iexact Hm
      iintro HB
      iapply Hk
      isplitr; · iempintro
      iexact HB
    · have hz : t.val - 280 = (grid0.coords t 1).val := by omega
      rw [semSt_fly m c arg7 arg12 arg13.sem t.val (by omega) (by omega), hz]
      iintro ⟨Hs, Hd, Hm, Hk⟩
      iapply (issue_spec c _ arg2 harg2 arg3 harg3 arg4 harg4 arg5 harg5 arg6 harg6 arg7 harg7 arg8 harg8 arg9 harg9 arg10 harg10 arg11 harg11 arg12 harg12 arg13 ((cond4_iff t).mpr (by omega)) (accEnd m c) K)
      isplitl [Hs]; · iexact Hs
      isplitl [Hd]; · iexact Hd
      isplitl [Hm]; · iexact Hm
      iintro HB
      iapply Hk
      isplitr; · iempintro
      iexact HB
set_option maxHeartbeats 2000000 in
/-- The last point waits for the eight copies. -/
theorem drain_stage (c : Dev nD) (t : Fin cfg0.N) (i : grid0.Coords) (arg2 : Memref sig .tc .smem S1 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x8192 .i8) (harg5 : arg5.IsWhole) (arg6 : Memref sig .tc .vmem S512x1024 .bf16) (harg6 : arg6.IsWhole) (arg7 : Memref sig .tc .hbm S1024x8192 .f32) (harg7 : arg7.IsWhole) (arg8 : Memref sig .tc .vmem S512x1024 .i8) (harg8 : arg8.IsWhole) (arg9 : Memref sig .tc .vmem S512x8 .f32) (harg9 : arg9.IsWhole) (arg10 : Memref sig .tc .vmem S512x1024 .bf16) (harg10 : arg10.IsWhole) (arg11 : Memref sig .tc .vmem S1024x512 .bf16) (harg11 : arg11.IsWhole) (arg12 : Memref sig .tc .vmem S8x1024x1024 .f32) (harg12 : arg12.IsWhole) (arg13 : DmaSems sig S_) (hi : i = grid0.coords t) (hN0 : 0 < copyN arg7 arg13.sem) (W : Waits sig Unit) (K : PUnit → sProp 𝕄) :
    iprop(midSt m c arg7 arg12 arg13.sem t.val
        ∗ owes (c : Thread nD τ) 0 W
        ∗ (iprop(semSt m c arg7 arg12 arg13.sem (t.val + 1) ∗ ∃ W', owes (c : Thread nD τ) 0 W') -∗ K ⟨⟩))
      ⊢ wp frame (wpE (defs₀ (F := F)) Variants.none c none) Set.univ
          (drainProg i arg2 harg2 arg3 harg3 arg4 harg4 arg5 harg5 arg6 harg6 arg7 harg7 arg8 harg8 arg9 harg9 arg10 harg10 arg11 harg11 arg12 harg12 arg13) K := by
  subst hi
  have hN := N288 t
  by_cases h : t.val = 287
  · rw [midSt_fly m c arg7 arg12 arg13.sem t.val 8 (by omega) (by omega), semSt_end m c arg7 arg12 arg13.sem (t.val + 1) (by omega)]
    iintro ⟨Hm, HO, Hk⟩
    iapply (drain_spec c _ arg2 harg2 arg3 harg3 arg4 harg4 arg5 harg5 arg6 harg6 arg7 harg7 arg8 harg8 arg9 harg9 arg10 harg10 arg11 harg11 arg12 harg12 arg13 ((drain_iff t).mpr h) hN0 (accEnd m c) W K)
    isplitl [Hm]; · iexact Hm
    isplitl [HO]; · iexact HO
    iintro ⟨HD, HS, HO⟩
    iapply Hk
    isplitl [HD HS]
    · isplitl [HD]; · iexact HD
      iexact HS
    iexact HO
  · have hm : midSt m c arg7 arg12 arg13.sem t.val = semSt m c arg7 arg12 arg13.sem (t.val + 1) := by
      by_cases h' : t.val < 280
      · rw [midSt_zero m c arg7 arg12 arg13.sem t.val h', semSt_zero m c arg7 arg12 arg13.sem (t.val + 1) (by omega)]
      · rw [midSt_fly m c arg7 arg12 arg13.sem t.val (t.val + 1 - 280) (by omega) (by omega), semSt_fly m c arg7 arg12 arg13.sem (t.val + 1) (by omega) (by omega)]
    rw [hm]
    iintro ⟨Hm, HO, Hk⟩
    iapply (drain_none c _ arg2 harg2 arg3 harg3 arg4 harg4 arg5 harg5 arg6 harg6 arg7 harg7 arg8 harg8 arg9 harg9 arg10 harg10 arg11 harg11 arg12 harg12 arg13 (fun h' => h ((drain_iff t).mp h')) K)
    iapply Hk
    isplitl [Hm]; · iexact Hm
    iexists _; iexact HO
end Cert.KernelIdeal.Hand

end
-- ==== Proof.KIData.lean ====
/-
  Hand-written, untrusted. The proof data of the kernel's one pipeline: the state between the grid's points, what each
  point leaves in the results' blocks, and the body's obligation at a generic point.
-/
module

public import proofs.«01_k».proof.Proof.KIStage
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ)

/-! ## What each point leaves -/

/-- The weight's scale as point `t` finds it. -/
def wsV (c : Dev nD) (t : Fin cfg0.N) : Vec F S1 .f32 := Gen.iblk m c 0 t

/-- Point `t`'s block of the input gradient. -/
def dxV (c : Dev nD) (t : Fin cfg0.N) : Vec F S512x1024 .bf16 :=
  k0_pay51 (wcols (Gen.iblk m c 3 t) (grid0.coords t 1)) (deqOf (yb m c (t.val / 8))) ((wsV m c t) (fun a => ⟨0, by revert a; decide⟩))

/-- The state between the points: the two blocks derived from the gradient, each column's accumulator and column block of
    the weight gradient, the copies' semaphore. -/
def Phi (c : Dev nD) (n : ℕ) : sProp 𝕄 :=
  iprop(deqSt m c (Memref.whole cc0_scratch0) n ∗ dytSt m c (Memref.whole cc0_scratch1) n
    ∗ bigSep Finset.univ (heldSt m c (Memref.whole main_v2_1) (Memref.whole cc0_scratch2) n)
    ∗ semSt m c (Memref.whole main_v2_1) (Memref.whole cc0_scratch2) cc0_scratch3.sem n)

/-- The proof data. -/
def dats (_ : Fin 1) (c : Dev nD) : Dat τ (Elt F) Unit ℕ (Pipeline.UD sig nD τ) ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => dxV m c t
    | ⟨5, _⟩ => codesOf (yb m c (t.val / 8))
    | ⟨6, _⟩ => scalesOf (yb m c (t.val / 8))
  Φ t := Phi m c t.val
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = Gen.iblk m c 0 t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) : (dats m 0 c).after 4 t = dxV m c t := by dsimp only [dats]
theorem after0_5 (c : Dev nD) (t : Fin cfg0.N) : (dats m 0 c).after 5 t = codesOf (yb m c (t.val / 8)) := by dsimp only [dats]
theorem after0_6 (c : Dev nD) (t : Fin cfg0.N) : (dats m 0 c).after 6 t = scalesOf (yb m c (t.val / 8)) := by dsimp only [dats]

theorem before0_0 (c : Dev nD) (t : Fin cfg0.N) (d) : (dats m 0 c).before 0 t d = Gen.iblk m c 0 t :=
  ((dats m 0 c).before_in_eq_fetched 0 rfl (fun _ => rfl) (fun _ _ _ => rfl) (fun t => by rw [after0_0]; unfold Dat.blockOf Gen.iblk; rw [A_eq]; try rfl) t d).trans
    (by unfold Dat.fetched Dat.blockOf Gen.iblk; rw [A_eq]; try rfl)
theorem before0_1 (c : Dev nD) (t : Fin cfg0.N) (d) : (dats m 0 c).before 1 t d = Gen.iblk m c 1 t :=
  ((dats m 0 c).before_in_eq_fetched 1 rfl (fun _ => rfl) (fun _ _ _ => rfl) (fun t => by rw [after0_1]; unfold Dat.blockOf Gen.iblk; rw [A_eq]; try rfl) t d).trans
    (by unfold Dat.fetched Dat.blockOf Gen.iblk; rw [A_eq]; try rfl)
theorem before0_2 (c : Dev nD) (t : Fin cfg0.N) (d) : (dats m 0 c).before 2 t d = Gen.iblk m c 2 t :=
  ((dats m 0 c).before_in_eq_fetched 2 rfl (fun _ => rfl) (fun _ _ _ => rfl) (fun t => by rw [after0_2]; unfold Dat.blockOf Gen.iblk; rw [A_eq]; try rfl) t d).trans
    (by unfold Dat.fetched Dat.blockOf Gen.iblk; rw [A_eq]; try rfl)
theorem before0_3 (c : Dev nD) (t : Fin cfg0.N) (d) : (dats m 0 c).before 3 t d = Gen.iblk m c 3 t :=
  ((dats m 0 c).before_in_eq_fetched 3 rfl (fun _ => rfl) (fun _ _ _ => rfl) (fun t => by rw [after0_3]; unfold Dat.blockOf Gen.iblk; rw [A_eq]; try rfl) t d).trans
    (by unfold Dat.fetched Dat.blockOf Gen.iblk; rw [A_eq]; try rfl)

/-! ## The quantised blocks, stored at the first column point of a token block and written back at the last -/

theorem idle5 (t : Fin cfg0.N) : cfg0.idle 5 (cfg0.grid.coords t) = !decide (t.val % 8 = 0) := by
  show (!(k0_cond1 (grid0.coords t) == 1#1)) = _
  have h := cond1_iff t
  by_cases h0 : t.val % 8 = 0
  · rw [h.mpr h0, decide_eq_true h0]; rfl
  · rw [decide_eq_false h0, beq_eq_false_iff_ne.mpr (fun e => h0 (h.mp e))]
theorem idle6 (t : Fin cfg0.N) : cfg0.idle 6 (cfg0.grid.coords t) = !decide (t.val % 8 = 0) := idle5 t

theorem flushB5 (t : Fin cfg0.N) : (cfg0.win 5).flush t = decide (t.val % 8 = 7) := by
  by_cases h : t.val % 8 = 7
  · rw [decide_eq_true h]; exact (Gen.flush0_5 t).mpr h
  · rw [decide_eq_false h]; exact Bool.eq_false_iff.mpr (fun e => h ((Gen.flush0_5 t).mp e))

theorem fresh5 (n : ℕ) (h : n ≤ cfg0.N) : cfg0.fresh 5 n = decide (n % 8 = 0) :=
  cfg0.fresh_tab 5 (fun n => decide (n % 8 = 0)) rfl (fun t => by
    rw [flushB5, idle5]
    have h1 : ((t.val + 1) % 8 = 0) ↔ (t.val % 8 = 7) := by omega
    simp only [h1]
    by_cases h : t.val % 8 = 0 <;> simp [h]) n h

/-- Before a point other than its token block's first, the window holds what the first stored. -/
theorem before0_5 (c : Dev nD) (t : Fin cfg0.N) (h : ¬ t.val % 8 = 0) (d) : (dats m 0 c).before 5 t d = codesOf (yb m c (t.val / 8)) := by
  rw [(dats m 0 c).before_out_traj 5 rfl (fun _ _ => rfl) (fun t ht hi hf => by
      rw [after0_5, after0_5]
      rw [fresh5 _ (Nat.le_of_lt t.isLt)] at hf
      have := of_decide_eq_false hf
      rw [show (t.val - 1) / 8 = t.val / 8 by omega]) t.val t rfl d,
    fresh5 _ (Nat.le_of_lt t.isLt), decide_eq_false h, if_neg Bool.false_ne_true, after0_5]
  rw [show (t.val - 1) / 8 = t.val / 8 by omega]

/-- What the body obligation asks of the window after point `t`. -/
def outPost5 (c : Dev nD) (t : Fin cfg0.N) : sProp 𝕄 :=
  match cfg0.idle 5 (cfg0.grid.coords t) with
  | true =>
    match (cfg0.win 5).flush t with
    | false => iprop(∃ d, owns (c : Thread nD τ) (st0_5 t) fullShare ((dats m 0 c).before 5 t d))
    | true => owns (c : Thread nD τ) (st0_5 t) fullShare ((dats m 0 c).after 5 t)
  | false => owns (c : Thread nD τ) (st0_5 t) fullShare ((dats m 0 c).after 5 t)

theorem outPost5_first (c : Dev nD) (t : Fin cfg0.N) (h : t.val % 8 = 0) :
    outPost5 m c t = owns (c : Thread nD τ) (st0_5 t) fullShare (codesOf (yb m c (t.val / 8))) := by
  unfold outPost5
  rw [idle5 t, decide_eq_true h, after0_5]
  rfl

theorem outPost5_next (c : Dev nD) (t : Fin cfg0.N) (h : ¬ t.val % 8 = 0) :
    iprop(∃ d, owns (c : Thread nD τ) (st0_5 t) fullShare ((dats m 0 c).before 5 t d)) ⊢ outPost5 m c t := by
  unfold outPost5
  rw [idle5 t, decide_eq_false h, flushB5]
  by_cases h7 : t.val % 8 = 7
  · rw [decide_eq_true h7, after0_5]
    simp only [before0_5 m c t h]
    show iprop(∃ d : (cfg0.win 5).block.Idx → Elt F (cfg0.win 5).elt, owns (c : Thread nD τ) (st0_5 t) fullShare (codesOf (yb m c (t.val / 8)))) ⊢ owns (c : Thread nD τ) (st0_5 t) fullShare (codesOf (yb m c (t.val / 8)))
    iintro ⟨%d, H⟩
    iexact H
  · rw [decide_eq_false h7]
    exact .rfl

theorem flushB6 (t : Fin cfg0.N) : (cfg0.win 6).flush t = decide (t.val % 8 = 7) := by
  by_cases h : t.val % 8 = 7
  · rw [decide_eq_true h]; exact (Gen.flush0_6 t).mpr h
  · rw [decide_eq_false h]; exact Bool.eq_false_iff.mpr (fun e => h ((Gen.flush0_6 t).mp e))

theorem fresh6 (n : ℕ) (h : n ≤ cfg0.N) : cfg0.fresh 6 n = decide (n % 8 = 0) :=
  cfg0.fresh_tab 6 (fun n => decide (n % 8 = 0)) rfl (fun t => by
    rw [flushB6, idle6]
    have h1 : ((t.val + 1) % 8 = 0) ↔ (t.val % 8 = 7) := by omega
    simp only [h1]
    by_cases h : t.val % 8 = 0 <;> simp [h]) n h

/-- Before a point other than its token block's first, the window holds what the first stored. -/
theorem before0_6 (c : Dev nD) (t : Fin cfg0.N) (h : ¬ t.val % 8 = 0) (d) : (dats m 0 c).before 6 t d = scalesOf (yb m c (t.val / 8)) := by
  rw [(dats m 0 c).before_out_traj 6 rfl (fun _ _ => rfl) (fun t ht hi hf => by
      rw [after0_6, after0_6]
      rw [fresh6 _ (Nat.le_of_lt t.isLt)] at hf
      have := of_decide_eq_false hf
      rw [show (t.val - 1) / 8 = t.val / 8 by omega]) t.val t rfl d,
    fresh6 _ (Nat.le_of_lt t.isLt), decide_eq_false h, if_neg Bool.false_ne_true, after0_6]
  rw [show (t.val - 1) / 8 = t.val / 8 by omega]

/-- What the body obligation asks of the window after point `t`. -/
def outPost6 (c : Dev nD) (t : Fin cfg0.N) : sProp 𝕄 :=
  match cfg0.idle 6 (cfg0.grid.coords t) with
  | true =>
    match (cfg0.win 6).flush t with
    | false => iprop(∃ d, owns (c : Thread nD τ) (st0_6 t) fullShare ((dats m 0 c).before 6 t d))
    | true => owns (c : Thread nD τ) (st0_6 t) fullShare ((dats m 0 c).after 6 t)
  | false => owns (c : Thread nD τ) (st0_6 t) fullShare ((dats m 0 c).after 6 t)

theorem outPost6_first (c : Dev nD) (t : Fin cfg0.N) (h : t.val % 8 = 0) :
    outPost6 m c t = owns (c : Thread nD τ) (st0_6 t) fullShare (scalesOf (yb m c (t.val / 8))) := by
  unfold outPost6
  rw [idle6 t, decide_eq_true h, after0_6]
  rfl

theorem outPost6_next (c : Dev nD) (t : Fin cfg0.N) (h : ¬ t.val % 8 = 0) :
    iprop(∃ d, owns (c : Thread nD τ) (st0_6 t) fullShare ((dats m 0 c).before 6 t d)) ⊢ outPost6 m c t := by
  unfold outPost6
  rw [idle6 t, decide_eq_false h, flushB6]
  by_cases h7 : t.val % 8 = 7
  · rw [decide_eq_true h7, after0_6]
    simp only [before0_6 m c t h]
    show iprop(∃ d : (cfg0.win 6).block.Idx → Elt F (cfg0.win 6).elt, owns (c : Thread nD τ) (st0_6 t) fullShare (scalesOf (yb m c (t.val / 8)))) ⊢ owns (c : Thread nD τ) (st0_6 t) fullShare (scalesOf (yb m c (t.val / 8)))
    iintro ⟨%d, H⟩
    iexact H
  · rw [decide_eq_false h7]
    exact .rfl

/-! ## The body obligation, at a generic point -/

theorem quant_all (c : Dev nD) (t : Fin cfg0.N) (K : PUnit → sProp 𝕄) :
    iprop(owns (c : Thread nD τ) (st0_2 t) fullShare (Gen.iblk m c 2 t)
        ∗ (∃ d, owns (c : Thread nD τ) (st0_5 t) fullShare ((dats m 0 c).before 5 t d))
        ∗ (∃ d, owns (c : Thread nD τ) (st0_6 t) fullShare ((dats m 0 c).before 6 t d))
        ∗ deqSt m c (Memref.whole cc0_scratch0) t.val ∗ dytSt m c (Memref.whole cc0_scratch1) t.val
        ∗ (iprop(owns (c : Thread nD τ) (st0_2 t) fullShare (Gen.iblk m c 2 t) ∗ outPost5 m c t ∗ outPost6 m c t
            ∗ owns (c : Thread nD τ) (Memref.whole cc0_scratch0) fullShare (deqOf (yb m c (t.val / 8)))
            ∗ owns (c : Thread nD τ) (Memref.whole cc0_scratch1) fullShare (k0_pay50 (yb m c (t.val / 8)))) -∗ K ⟨⟩))
      ⊢ wp frame (wpE (defs₀ (F := F)) Variants.none c none) Set.univ
          (if k0_cond1 (grid0.coords t) = 1#1 then quantProg (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 else pure ⟨⟩) K := by
  by_cases h : t.val % 8 = 0
  · rw [outPost5_first m c t h, outPost6_first m c t h]
    iintro ⟨H2, ⟨%d5, H5⟩, ⟨%d6, H6⟩, Hd, Ht, Hk⟩
    iapply (quant_first m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl h K)
    isplitl [H2]; · iexact H2
    isplitl [H5]; · iexists _; iexact H5
    isplitl [H6]; · iexists _; iexact H6
    isplitl [Hd]; · iexact Hd
    isplitl [Ht]; · iexact Ht
    iexact Hk
  · iintro ⟨H2, H5, H6, Hd, Ht, Hk⟩
    iapply (quant_next m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl h K)
    isplitl [Hd]; · iexact Hd
    isplitl [Ht]; · iexact Ht
    iintro ⟨Hd, Ht⟩
    iapply Hk
    isplitl [H2]; · iexact H2
    isplitl [H5]; · iapply (outPost5_next m c t h); iexact H5
    isplitl [H6]; · iapply (outPost6_next m c t h); iexact H6
    isplitl [Hd]; · iexact Hd
    iexact Ht

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ outPost5 m c t ∗ outPost6 m c t)

theorem copyN_pos : 0 < copyN (Memref.whole main_v2_1) cc0_scratch3.sem := by decide +kernel

theorem held_split (f : Fin 8 → sProp 𝕄) (j : Fin 8) : bigSep Finset.univ f = iprop(f j ∗ bigSep (Finset.univ.erase j) f) :=
  BI.bigSep_erase (Finset.mem_univ j)

theorem Phi_open (c : Dev nD) (t : Fin cfg0.N) : (dats m 0 c).Φ t.castSucc
    = iprop(deqSt m c (Memref.whole cc0_scratch0) t.val ∗ dytSt m c (Memref.whole cc0_scratch1) t.val
      ∗ ((slabSt m c (Memref.whole cc0_scratch2) t.val (grid0.coords t 1) ∗ ∃ x, owns (c : Thread nD τ) (colM (Memref.whole main_v2_1) (grid0.coords t 1)) fullShare x)
        ∗ bigSep (Finset.univ.erase (grid0.coords t 1)) (heldSt m c (Memref.whole main_v2_1) (Memref.whole cc0_scratch2) t.val))
      ∗ semSt m c (Memref.whole main_v2_1) (Memref.whole cc0_scratch2) cc0_scratch3.sem t.val) := by
  have hc := col_val t
  have hN := N288 t
  show Phi m c t.val = _
  unfold Phi
  rw [held_split (heldSt m c (Memref.whole main_v2_1) (Memref.whole cc0_scratch2) t.val) (grid0.coords t 1), heldSt_live m c _ _ _ (grid0.coords t 1) (by omega)]
  rfl

theorem Phi_close (c : Dev nD) (t : Fin cfg0.N) :
    iprop(owns (c : Thread nD τ) (Memref.whole cc0_scratch0) fullShare (deqOf (yb m c (t.val / 8)))
      ∗ owns (c : Thread nD τ) (Memref.whole cc0_scratch1) fullShare (k0_pay50 (yb m c (t.val / 8)))
      ∗ (heldSt m c (Memref.whole main_v2_1) (Memref.whole cc0_scratch2) (t.val + 1) (grid0.coords t 1)
        ∗ bigSep (Finset.univ.erase (grid0.coords t 1)) (heldSt m c (Memref.whole main_v2_1) (Memref.whole cc0_scratch2) t.val))
      ∗ semSt m c (Memref.whole main_v2_1) (Memref.whole cc0_scratch2) cc0_scratch3.sem (t.val + 1)) = (dats m 0 c).Φ t.succ := by
  have hc := col_val t
  have hN := N288 t
  show _ = Phi m c (t.val + 1)
  unfold Phi deqSt dytSt
  have hr : bigSep (Finset.univ.erase (grid0.coords t 1 : Fin 8)) (heldSt m c (Memref.whole main_v2_1) (Memref.whole cc0_scratch2) t.val)
      = bigSep (Finset.univ.erase (grid0.coords t 1 : Fin 8)) (heldSt m c (Memref.whole main_v2_1) (Memref.whole cc0_scratch2) (t.val + 1)) :=
    BI.bigSep_congr fun j hj => heldSt_next m c _ _ t.val j (fun e => Finset.ne_of_mem_erase hj (Fin.ext (e.trans hc.symm))) hN
  rw [held_split (heldSt m c (Memref.whole main_v2_1) (Memref.whole cc0_scratch2) (t.val + 1)) (grid0.coords t 1), if_neg (Nat.succ_ne_zero _), if_neg (Nat.succ_ne_zero _), Nat.add_sub_cancel]
  rw [hr]
  rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_open, ← Phi_close, after0_0, after0_1, after0_2, after0_3, after0_4]
  unfold Dat.owesAt Pipeline.owesWithin
  rw [show (dats m 0 c).owed t.castSucc = 0 from rfl, show (dats m 0 c).owed t.succ = 0 from rfl]
  rw [body_eq]
  simp only [wp_bind]
  iintro ⟨⟨Hd, Ht, ⟨⟨Hs, Hc⟩, Hh⟩, Hm⟩, ⟨%W, -, HW⟩, ⟨%d0, H0⟩, ⟨%d1, H1⟩, ⟨%d2, H2⟩, ⟨%d3, H3⟩, ⟨%d4, H4⟩, H5, H6⟩
  iapply (quant_all m c t)
  isplitl [H2]; · iexact H2
  isplitl [H5]; · iexact H5
  isplitl [H6]; · iexact H6
  isplitl [Hd]; · iexact Hd
  isplitl [Ht]; · iexact Ht
  iintro ⟨H2, H5, H6, Hd, Ht⟩
  iapply (dx_spec c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 (Gen.iblk m c 3 t) (deqOf (yb m c (t.val / 8))) (Gen.iblk m c 0 t))
  isplitl [H0]; · iexact H0
  isplitl [H3]; · iexact H3
  isplitl [Hd]; · iexact Hd
  isplitl [H4]; · iexists _; iexact H4
  iintro ⟨H0, H3, Hd, H4⟩
  iapply (mid_stage m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl)
  isplitl [H1]; · iexact H1
  isplitl [Ht]; · iexact Ht
  isplitl [Hs]; · iexact Hs
  iintro ⟨H1, Ht, Hs⟩
  iapply (issue_stage m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl)
  isplitl [Hs]; · iexact Hs
  isplitl [Hc]; · iexact Hc
  isplitl [Hm]; · iexact Hm
  iintro ⟨Hj, Hm⟩
  iapply (drain_stage m c t (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (Memref.whole main_v2_1) (Memref.isWhole_whole _) (st0_5 t) (hstage0_5 ((cfg0.slots t 5).cast nbuf0_5)) (st0_6 t) (hstage0_6 ((cfg0.slots t 6).cast nbuf0_6)) (Memref.whole cc0_scratch0) (Memref.isWhole_whole _) (Memref.whole cc0_scratch1) (Memref.isWhole_whole _) (Memref.whole cc0_scratch2) (Memref.isWhole_whole _) cc0_scratch3 rfl copyN_pos W)
  isplitl [Hm]; · iexact Hm
  isplitl [HW]; · iexact HW
  iintro ⟨Hm, ⟨%W', HW⟩⟩
  isplitl [Hd Ht Hj Hh Hm]
  · isplitl [Hd]; · iexact Hd
    isplitl [Ht]; · iexact Ht
    isplitl [Hj Hh]
    · isplitl [Hj]; · iexact Hj
      iexact Hh
    iexact Hm
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The pipeline's obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Hand

end
-- ==== Proof.KICut.lean ====
/-
  Hand-written, untrusted. The accumulator and the weight gradient's array cut into the eight slabs and the eight column
  blocks the kernel works with, and put together again.
-/
module

public import proofs.«01_k».proof.Proof.KIIssue
public import Idealize.ShloMosaic.Lib.ValueIdxCore
public import Idealize.ShloMosaic.Lib.ValueIdxCoords
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

open Idealize.ShloMosaic.ValueIdx (ix3)

/-- Slab `j` of the accumulator, as a rectangle. -/
abbrev slabR (j : Fin 8) : Rect S8x1024x1024 := Rect.unit (s := S8x1024x1024) ![j.val, 0, 0] S1x1024x1024.size (inb_slab j)
/-- Column block `j` of the weight gradient, as a rectangle. -/
abbrev colR (j : Fin 8) : Rect S1024x8192 := Rect.unit (s := S1024x8192) ![0, 1024 * j.val] S1024x1024.size (inb_col j)

theorem mem_slabR (j : Fin 8) (i : S8x1024x1024.Idx) : i ∈ (slabR j).set ↔ (i 0).val = j.val := by
  rw [Rect.mem_set_unit]
  have h1 : (i 1).val < 1024 := (i 1).isLt
  have h2 : (i 2).val < 1024 := (i 2).isLt
  constructor
  · intro h
    have h0 : j.val ≤ (i 0).val ∧ (i 0).val < j.val + 1 := h 0
    omega
  · intro h a
    match a with
    | ⟨0, _⟩ => show j.val ≤ (i 0).val ∧ (i 0).val < j.val + 1; omega
    | ⟨1, _⟩ => show 0 ≤ (i 1).val ∧ (i 1).val < 0 + 1024; omega
    | ⟨2, _⟩ => show 0 ≤ (i 2).val ∧ (i 2).val < 0 + 1024; omega

theorem mem_colR (j : Fin 8) (i : S1024x8192.Idx) : i ∈ (colR j).set ↔ (i 1).val / 1024 = j.val := by
  rw [Rect.mem_set_unit]
  have h0 : (i 0).val < 1024 := (i 0).isLt
  constructor
  · intro h
    have h0 : 1024 * j.val ≤ (i 1).val ∧ (i 1).val < 1024 * j.val + 1024 := h 1
    omega
  · intro h a
    match a with
    | ⟨0, _⟩ => show 0 ≤ (i 0).val ∧ (i 0).val < 0 + 1024; omega
    | ⟨1, _⟩ => show 1024 * j.val ≤ (i 1).val ∧ (i 1).val < 1024 * j.val + 1024; omega

theorem slabR_disj (j j' : Fin 8) (h : j ≠ j') : Disjoint (slabR j).set (slabR j').set :=
  Finset.disjoint_left.mpr fun i hi hi' => h (Fin.ext (((mem_slabR j i).mp hi).symm.trans ((mem_slabR j' i).mp hi')))
theorem colR_disj (j j' : Fin 8) (h : j ≠ j') : Disjoint (colR j).set (colR j').set :=
  Finset.disjoint_left.mpr fun i hi hi' => h (Fin.ext (((mem_colR j i).mp hi).symm.trans ((mem_colR j' i).mp hi')))
theorem slabR_cover : (Finset.univ : Finset (Fin 8)).biUnion (fun j => (slabR j).set) = Finset.univ :=
  Finset.eq_univ_iff_forall.mpr fun i => Finset.mem_biUnion.mpr ⟨i 0, Finset.mem_univ _, (mem_slabR _ i).mpr rfl⟩
theorem colR_cover : (Finset.univ : Finset (Fin 8)).biUnion (fun j => (colR j).set) = Finset.univ :=
  Finset.eq_univ_iff_forall.mpr fun i => Finset.mem_biUnion.mpr
    ⟨⟨(i 1).val / 1024, by have h : (i 1).val < 8192 := (i 1).isLt; omega⟩, Finset.mem_univ _, (mem_colR _ i).mpr rfl⟩

/-- The weight gradient from the accumulator's eight slabs: column 1024·j + r is slab `j`'s column r. -/
def dwOf (A : Fin 8 → Vec F S1x1024x1024 .f32) : Vec F S1024x8192 .f32 := fun i =>
  A ⟨(i 1).val / 1024, by have h : (i 1).val < 8192 := (i 1).isLt; omega⟩
    (ix3 (n0 := 1) (n1 := 1024) (n2 := 1024) 0 (i 0) ⟨(i 1).val % 1024, Nat.mod_lt _ (by decide)⟩)

/-- The accumulator from its eight slabs. -/
def accOf (A : Fin 8 → Vec F S1x1024x1024 .f32) : Vec F S8x1024x1024 .f32 := fun i =>
  A (i 0) (ix3 (n0 := 1) (n1 := 1024) (n2 := 1024) 0 (i 1) (i 2))

theorem accOf_slab (A : Fin 8 → Vec F S1x1024x1024 .f32) (j : Fin 8) : (fun k => accOf A ((slabR j).emb k)) = A j := by
  funext k
  have h0 : (k 0).val < 1 := (k 0).isLt
  have e0 : ((slabR j).emb k 0) = j := Fin.ext (by show j.val + 1 * (k 0).val = j.val; omega)
  have e : ix3 (n0 := 1) (n1 := 1024) (n2 := 1024) 0 ((slabR j).emb k 1) ((slabR j).emb k 2) = k := by
    funext a
    match a with
    | ⟨0, _⟩ => refine Fin.ext ?_; show 0 = (k 0).val; omega
    | ⟨1, _⟩ => refine Fin.ext ?_; show 0 + 1 * (k 1).val = (k 1).val; omega
    | ⟨2, _⟩ => refine Fin.ext ?_; show 0 + 1 * (k 2).val = (k 2).val; omega
  show A ((slabR j).emb k 0) (ix3 0 ((slabR j).emb k 1) ((slabR j).emb k 2)) = A j k
  rw [e, e0]

/-- The squeezed slab's index `(p, q)` is the slab's `(0, p, q)`. -/
theorem sq_apply (a : Vec F S1x1024x1024 .f32) (k : S1024x1024.Idx) :
    sq a k = a (ix3 (n0 := 1) (n1 := 1024) (n2 := 1024) 0 (k 0) (k 1)) := by
  unfold sq
  conv_lhs => rw [ValueIdx.eq_ix2 k]
  exact congrArg a (ValueIdx.reshapeEquiv_ix2_1ab _ _ _)

theorem dwOf_col (A : Fin 8 → Vec F S1x1024x1024 .f32) (j : Fin 8) : (fun k => dwOf A ((colR j).emb k)) = sq (A j) := by
  funext k
  rw [sq_apply]
  have h1 : (k 1).val < 1024 := (k 1).isLt
  have v1 : ((colR j).emb k 1).val = 1024 * j.val + (k 1).val := by show 1024 * j.val + 1 * (k 1).val = _; omega
  unfold dwOf
  have ej : (⟨((colR j).emb k 1).val / 1024, by have h : ((colR j).emb k 1).val < 8192 := ((colR j).emb k 1).isLt; omega⟩ : Fin 8) = j :=
    Fin.ext (by show ((colR j).emb k 1).val / 1024 = j.val; omega)
  have e : ix3 (n0 := 1) (n1 := 1024) (n2 := 1024) 0 ((colR j).emb k 0) ⟨((colR j).emb k 1).val % 1024, Nat.mod_lt _ (by decide)⟩
      = ix3 (n0 := 1) (n1 := 1024) (n2 := 1024) 0 (k 0) (k 1) := by
    funext a
    match a with
    | ⟨0, _⟩ => rfl
    | ⟨1, _⟩ => refine Fin.ext ?_; show 0 + 1 * (k 0).val = (k 0).val; omega
    | ⟨2, _⟩ => refine Fin.ext ?_; show ((colR j).emb k 1).val % 1024 = (k 1).val; omega
  rw [ej, e]

variable (c : Dev nD)

theorem owns_any {sp : Space} {s : Shape} {e : EltTy} (M : Memref sig .tc sp s e) (x : s.Idx → Elt F e) :
    (owns (c : Thread nD τ) M fullShare x : sProp 𝕄) ⊢ iprop(∃ x, owns (c : Thread nD τ) M fullShare x) := by
  iintro H; iexists _; iexact H

/-- The accumulator at any contents is its eight slabs at any contents. -/
theorem acc_split (f : Buf (Elt F) ((c : Thread nD τ).loc cc0_scratch2)) : ((c : Thread nD τ).loc cc0_scratch2 ↦{fullShare} f : sProp 𝕄)
    ⊢ bigSep Finset.univ fun j => iprop(∃ a, owns (c : Thread nD τ) (slab (Memref.whole cc0_scratch2) j) fullShare a) := by
  rw [← owns_whole (c : Thread nD τ) cc0_scratch2 fullShare f]
  exact (owns_rects (c : Thread nD τ) (Memref.whole cc0_scratch2) fullShare slabR (fun _ _ => rfl) slabR_disj slabR_cover f).trans
    (BI.bigSep_mono fun j _ => owns_any c (slab (Memref.whole cc0_scratch2) j) _)

/-- The eight slabs are the accumulator. -/
theorem acc_join (A : Fin 8 → Vec F S1x1024x1024 .f32) :
    (bigSep Finset.univ fun j => owns (c : Thread nD τ) (slab (Memref.whole cc0_scratch2) j) fullShare (A j) : sProp 𝕄)
      ⊢ (c : Thread nD τ).loc cc0_scratch2 ↦{fullShare} (accOf A) := by
  have h := owns_of_rects (Ix := Unit) (Name := ℕ) (U := Pipeline.UD sig nD τ) (Lvl := ℕ) (c : Thread nD τ) (Memref.whole cc0_scratch2) fullShare slabR (fun _ _ => rfl) slabR_disj slabR_cover (accOf A)
  simp only [accOf_slab] at h
  rw [← owns_whole (c : Thread nD τ) cc0_scratch2 fullShare (accOf A)]
  exact h

/-- The weight gradient's array at any contents is its eight column blocks. -/
theorem dw_split (f : Buf (Elt F) ((c : Thread nD τ).loc main_v2_1)) : ((c : Thread nD τ).loc main_v2_1 ↦{fullShare} f : sProp 𝕄)
    ⊢ bigSep Finset.univ fun j => iprop(∃ x, owns (c : Thread nD τ) (colM (Memref.whole main_v2_1) j) fullShare x) := by
  rw [← owns_whole (c : Thread nD τ) main_v2_1 fullShare f]
  exact (owns_rects (c : Thread nD τ) (Memref.whole main_v2_1) fullShare colR (fun _ _ => rfl) colR_disj colR_cover f).trans
    (BI.bigSep_mono fun j _ => owns_any c (colM (Memref.whole main_v2_1) j) _)

/-- The eight column blocks, each at its slab's contents, are the array at the weight gradient. -/
theorem dw_join (A : Fin 8 → Vec F S1x1024x1024 .f32) :
    (bigSep Finset.univ fun j => owns (c : Thread nD τ) (colM (Memref.whole main_v2_1) j) fullShare (sq (A j)) : sProp 𝕄)
      ⊢ (c : Thread nD τ).loc main_v2_1 ↦{fullShare} (dwOf A) := by
  have h := owns_of_rects (Ix := Unit) (Name := ℕ) (U := Pipeline.UD sig nD τ) (Lvl := ℕ) (c : Thread nD τ) (Memref.whole main_v2_1) fullShare colR (fun _ _ => rfl) colR_disj colR_cover (dwOf A)
  simp only [dwOf_col] at h
  rw [← owns_whole (c : Thread nD τ) main_v2_1 fullShare (dwOf A)]
  exact h

end Cert.KernelIdeal.Hand

end
-- ==== Proof.KIRun.lean ====
/-
  Hand-written, untrusted. The kernel's run, generic in the float type: what the pipeline's state is made of when the
  region is entered and what it returns, and the run of the whole program with every semaphore at zero at the end.
-/
module

public import proofs.«01_k».proof.Proof.KIData
public import proofs.«01_k».proof.Proof.KICut
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

/-- The kernel's own semaphore: the copies'. -/
abbrev osem0 : Fin 1 → SemLoc sig := fun _ => .dma cc0_scratch3.sem

/-- What the region leaves in the weight gradient's array; every other buffer as the region finds it. -/
def Gout (c : Dev nD) : (b : Ref sig .tc) → Buf (Elt F) ((c : Thread nD τ).loc b) :=
  Function.update (fun b => Gen.V m c b) main_v2_1 (dwOf (accEnd m c))

theorem Gout_dw (c : Dev nD) : Gout m c main_v2_1 = dwOf (accEnd m c) := Function.update_self ..

/-- Before the first point every column's slab and column block is held, at any contents. -/
theorem held_first (c : Dev nD) :
    iprop((bigSep Finset.univ fun j => iprop(∃ a, owns (c : Thread nD τ) (slab (Memref.whole cc0_scratch2) j) fullShare a))
      ∗ bigSep Finset.univ fun j => iprop(∃ x, owns (c : Thread nD τ) (colM (Memref.whole main_v2_1) j) fullShare x))
      ⊢ bigSep Finset.univ (heldSt m c (Memref.whole main_v2_1) (Memref.whole cc0_scratch2) 0) := by
  rw [← BI.bigSep_sep' Finset.univ]
  refine BI.bigSep_mono fun j _ => ?_
  rw [heldSt_live m c _ _ 0 j (Nat.zero_le _), slabSt_zero m c _ 0 j (Nat.zero_le _)]
  exact .refl _

/-- The state before the first point, from the kernel's buffers at any contents and its semaphore at zero. -/
theorem phi_in (c : Dev nD) (f : Buf (Elt F) ((c : Thread nD τ).loc main_v2_1)) :
    iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ semVal ((c : Thread nD τ), SemLoc.dma cc0_scratch3.sem) 0 ∗ ((c : Thread nD τ).loc main_v2_1) ↦{fullShare} f)
      ⊢ Phi m c 0 := by
  unfold Phi deqSt dytSt
  rw [if_pos rfl, if_pos rfl, semSt_zero m c _ _ _ 0 (by omega)]
  iintro ⟨⟨⟨%f0, H0⟩, ⟨%f1, H1⟩, ⟨%f2, H2⟩⟩, Hs, Hd⟩
  isplitl [H0]
  · iexists f0
    iapply (Entails.of_eq (owns_whole (c : Thread nD τ) cc0_scratch0 fullShare f0).symm)
    iexact H0
  isplitl [H1]
  · iexists f1
    iapply (Entails.of_eq (owns_whole (c : Thread nD τ) cc0_scratch1 fullShare f1).symm)
    iexact H1
  isplitl [H2 Hd]
  · iapply (held_first m c)
    isplitl [H2]
    · iapply (acc_split c f2); iexact H2
    · iapply (dw_split c f); iexact Hd
  · iexact Hs

/-- What the last point's state gives back: the buffers, the semaphore at zero, the weight gradient's array finished. -/
theorem phi_out (c : Dev nD) :
    Phi m c 288 ⊢ iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f))
      ∗ semVal ((c : Thread nD τ), SemLoc.dma cc0_scratch3.sem) 0
      ∗ ((c : Thread nD τ).loc main_v2_1) ↦{fullShare} (dwOf (accEnd m c))) := by
  unfold Phi
  have hd : (bigSep Finset.univ (deliv c (Memref.whole main_v2_1) (Memref.whole cc0_scratch2) (accEnd m c)) : sProp 𝕄)
      = iprop((bigSep Finset.univ fun j => owns (c : Thread nD τ) (colM (Memref.whole main_v2_1) j) fullShare (sq (accEnd m c j)))
        ∗ bigSep Finset.univ fun j => owns (c : Thread nD τ) (slab (Memref.whole cc0_scratch2) j) fullShare (accEnd m c j)) := by
    rw [← BI.bigSep_sep']; rfl
  rw [semSt_end m c _ _ _ 288 rfl, hd]
  refine (show _ ⊢ iprop((∃ x, owns (c : Thread nD τ) (Memref.whole cc0_scratch0) fullShare x) ∗ (∃ x, owns (c : Thread nD τ) (Memref.whole cc0_scratch1) fullShare x)
      ∗ ((bigSep Finset.univ fun j => owns (c : Thread nD τ) (colM (Memref.whole main_v2_1) j) fullShare (sq (accEnd m c j)))
        ∗ bigSep Finset.univ fun j => owns (c : Thread nD τ) (slab (Memref.whole cc0_scratch2) j) fullShare (accEnd m c j))
      ∗ semVal ((c : Thread nD τ), SemLoc.dma cc0_scratch3.sem) 0) from ?_).trans ?_
  · iintro ⟨H0, H1, -, ⟨H2, Hs⟩⟩
    isplitl [H0]; · iapply (deqSt_any m c (Memref.whole cc0_scratch0) 288); iexact H0
    isplitl [H1]; · iapply (dytSt_any m c (Memref.whole cc0_scratch1) 288); iexact H1
    isplitl [H2]; · iexact H2
    iexact Hs
  · iintro ⟨⟨%x0, H0⟩, ⟨%x1, H1⟩, ⟨Hc, Ha⟩, Hs⟩
    isplitl [H0 H1 Ha]
    · isplitl [H0]
      · iexists x0
        iapply (Entails.of_eq (owns_whole (c : Thread nD τ) cc0_scratch0 fullShare x0))
        iexact H0
      isplitl [H1]
      · iexists x1
        iapply (Entails.of_eq (owns_whole (c : Thread nD τ) cc0_scratch1 fullShare x1))
        iexact H1
      iexists (accOf (accEnd m c))
      iapply (acc_join c (accEnd m c)); iexact Ha
    isplitl [Hs]; · iexact Hs
    iapply (dw_join c (accEnd m c)); iexact Hc

theorem ownSem0_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma cc0_scratch3.sem) 0 := by
  rw [Pipeline.ownSems0_eq_of_list c osem0 [0] (by decide) (by decide)]; rfl

/-- The region is entered at the state before the first point. -/
theorem region_in (c : Dev nD) :
    Pipeline.ΦDRV osem0 spec0 ∅ {main_v2_1} (fun c b => Gen.V m c b) (fun c b => Gen.V m c b) c ⊢ (dats m 0 c).Φ 0 := by
  show _ ⊢ Phi m c 0
  unfold Pipeline.ΦDRV
  rw [Gen.scopedRest0_eq c, ownSem0_eq c, BI.bigSep_empty, BI.bigSep_singleton]
  refine (show _ ⊢ _ from ?_).trans (phi_in m c (Gen.V m c main_v2_1))
  iintro ⟨H, Hs, -, Hd⟩
  isplitl [H]; · iexact H
  isplitl [Hs]; · iexact Hs
  iexact Hd

/-- The state after the last point is what the region returns. -/
theorem region_out (c : Dev nD) :
    (dats m 0 c).Φ (Fin.last cfg0.N) ⊢ Pipeline.ΦDRV osem0 spec0 ∅ {main_v2_1} (fun c b => Gen.V m c b) (Gout m) c := by
  have hN : (dats m 0 c).Φ (Fin.last cfg0.N) = Phi m c 288 := congrArg (Phi m c) Gen.N_0
  rw [hN]
  unfold Pipeline.ΦDRV
  rw [Gen.scopedRest0_eq c, ownSem0_eq c, BI.bigSep_empty, BI.bigSep_singleton, Gout_dw]
  refine (phi_out m c).trans ?_
  iintro ⟨H, Hs, Hd⟩
  isplitl [H]; · iexact H
  isplitl [Hs]; · iexact Hs
  isplitr; · iempintro
  iexact Hd

/-- What the host lines after the region leave in the buffers. -/
def tailV (c : Dev nD) : Valuation τ sig (Elt F) :=
  StableHlo.after (List.flatten [hostOps1]) (Pipeline.withArrays spec0 c (Pipeline.withR (Gen.V0 m c) {main_v2_1} c (Gout m c)) fun w => (dats m 0 c).arrAt w cfg0.N)

set_option maxHeartbeats 800000 in
theorem hmainD : Pipeline.HMainK (Ix := Unit) (Name := ℕ) (U := Pipeline.UD sig nD τ) (Lvl := ℕ) cfgs 0 defs₀ Variants.none m (main (F := F)) (Gen.V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

set_option backward.isDefEq.respectTransparency.types false in
/-- The whole program's run: every window's array at what the points leave there, every other buffer as the host lines
    after the region leave it, every semaphore at zero. -/
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = tailV m c (Proc.devRef .tc b))
    ∧ r.2.sem = fun _ => 0) :=
  Pipeline.θ_run_frame_dmaR_aroundV cfgs (dats m) (0 : Fin 1) launch0 osem0 defs₀ Variants.none (by decide) ∅ {main_v2_1}
    (by decide) (by decide) m ρ main
    (hbody := fun c => (body_obligation m c).loose) (hshare := fun c => (dats m 0 c).share_full fun _ => rfl)
    (howed := fun _ _ => rfl) (V₀ := Gen.V0 m) (opss := [hostOps1]) (hsub := Gen.sfx_sub) (hfresh := Gen.sfx_fresh) (hkeep := Gen.sfx_keeps)
    (G := Gout m) (hmain := hmainD m) (hA := A_eq m) (hin := region_in m) (hout := region_out m)
    (Q' := _) (hQ' := fun r h => ⟨fun c => ⟨(h.1 c).1, (h.1 c).2⟩, h.2⟩)

end Cert.KernelIdeal.Hand

end
-- ==== Proof.KIOut.lean ====
/-
  Hand-written, untrusted. What the host lines after the region leave: the arguments as launched, the four results from
  the arrays the region leaves, and the frame.
-/
module

public import proofs.«01_k».proof.Proof.KIRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's user algebra: the pipeline library's beside the transfers' counters. -/
local notation "𝕄" => MT nD τ sig Unit (Elt F) ℕ (Pipeline.UD sig nD τ) ℕ

variable (m : (ℓ : Loc nD τ sig) → Buf (Elt F) ℓ) (ρ : Dev nD → PrngReg)

theorem arr_inj : Function.Injective (Pipeline.arrRef spec0) := by decide

/-- A buffer that the host lines after the region do not write and that is no window's array. -/
theorem tail_rest (c : Dev nD) (b : Ref sig .tc) (h3 : b ≠ main_v3) (h45 : b ≠ main_v4 ∧ b ≠ main_v5) (hw : ∀ w, Pipeline.arrRef spec0 w ≠ b) :
    tailV m c (Proc.devRef .tc b) = Pipeline.withR (Gen.V0 m c) {main_v2_1} c (Gout m c) (Proc.devRef .tc b) := by
  unfold tailV
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact ⟨StableHlo.devRef_ne_of_ne h3, StableHlo.devRef_ne_of_ne h45.1, StableHlo.devRef_ne_of_ne h45.2⟩)),
    Pipeline.withArrays_of_ne _ c _ _ b hw]

/-- The argument `main_arg0` ends as launched. -/
theorem tail_main_arg0 (c : Dev nD) : tailV m c (Proc.devRef .tc main_arg0) = m ((c : Thread nD τ).loc main_arg0) :=
  (tail_rest m c main_arg0 (by decide) (by decide) (by decide)).trans
    ((Pipeline.withR_of_not_mem _ _ _ _ main_arg0 (by decide)).trans (Gen.V_main_arg0 m c))

/-- The argument `main_arg1` ends as launched. -/
theorem tail_main_arg1 (c : Dev nD) : tailV m c (Proc.devRef .tc main_arg1) = m ((c : Thread nD τ).loc main_arg1) :=
  (tail_rest m c main_arg1 (by decide) (by decide) (by decide)).trans
    ((Pipeline.withR_of_not_mem _ _ _ _ main_arg1 (by decide)).trans (Gen.V_main_arg1 m c))

/-- The weight gradient. -/
theorem tail_dw (c : Dev nD) : tailV m c (Proc.devRef .tc main_v2_1) = dwOf (accEnd m c) :=
  (tail_rest m c main_v2_1 (by decide) (by decide) (by decide)).trans
    ((Pipeline.withR_of_mem _ _ _ _ main_v2_1 (by decide)).trans (Gout_dw m c))

/-- The three lines after the region, each at what it reads. -/
theorem after_tail (W : Valuation τ sig (Elt F)) :
    StableHlo.after (List.flatten [hostOps1]) W (Proc.devRef .tc main_v3) = shapeCast S12x1536x8192 (W (Proc.devRef .tc main_v2_0)) shapeCasts_S18432x8192_S12x1536x8192
    ∧ StableHlo.after (List.flatten [hostOps1]) W (Proc.devRef .tc main_v4) = shapeCast S12x1536x1024 (W (Proc.devRef .tc main_v2_2)) shapeCasts_S18432x1024_S12x1536x1024
    ∧ StableHlo.after (List.flatten [hostOps1]) W (Proc.devRef .tc main_v5) = shapeCast S12x1536x8 (W (Proc.devRef .tc main_v2_3)) shapeCasts_S18432x8_S12x1536x8 := by
  refine ⟨?_, ?_, ?_⟩
  all_goals
    simp only [hostOps1, List.flatten_cons, List.flatten_nil, List.append_nil, StableHlo.after_cons, StableHlo.after_nil]
  · rw [HloOp.result_of_not_mem _ _ (by rw [StableHlo.reshape_writes, Finset.mem_singleton]; exact StableHlo.devRef_ne_of_ne (by decide)),
      HloOp.result_of_not_mem _ _ (by rw [StableHlo.reshape_writes, Finset.mem_singleton]; exact StableHlo.devRef_ne_of_ne (by decide))]
    exact StableHlo.reshape_result main_v2_0 main_v3 rfl _ _ _ W
  · rw [HloOp.result_of_not_mem _ _ (by rw [StableHlo.reshape_writes, Finset.mem_singleton]; exact StableHlo.devRef_ne_of_ne (by decide))]
    refine (StableHlo.reshape_result main_v2_2 main_v4 rfl _ _ _ _).trans ?_
    rw [HloOp.result_of_not_mem _ _ (by rw [StableHlo.reshape_writes, Finset.mem_singleton]; exact StableHlo.devRef_ne_of_ne (by decide))]
    rfl
  · refine (StableHlo.reshape_result main_v2_3 main_v5 rfl _ _ _ _).trans ?_
    rw [HloOp.result_of_not_mem _ _ (by rw [StableHlo.reshape_writes, Finset.mem_singleton]; exact StableHlo.devRef_ne_of_ne (by decide)),
      HloOp.result_of_not_mem _ _ (by rw [StableHlo.reshape_writes, Finset.mem_singleton]; exact StableHlo.devRef_ne_of_ne (by decide))]
    rfl

/-- Window `w`'s array when the lines after the region are reached. -/
theorem mid_arr (c : Dev nD) (w : Fin cfg0.W) :
    (Pipeline.withArrays spec0 c (Pipeline.withR (Gen.V0 m c) {main_v2_1} c (Gout m c)) fun w => (dats m 0 c).arrAt w cfg0.N) (Proc.devRef .tc (Pipeline.arrRef spec0 w))
      = (dats m 0 c).arrAt w cfg0.N := Pipeline.withArrays_arr spec0 arr_inj c _ _ w

/-- The input gradient, before and after the host's reshape. -/
def dxOut (c : Dev nD) : Vec F S18432x8192 .bf16 := (dats m 0 c).arrAt 4 cfg0.N
/-- The codes, before the host's reshape. -/
def codesOut (c : Dev nD) : Vec F S18432x1024 .i8 := (dats m 0 c).arrAt 5 cfg0.N
/-- The scales, before the host's reshape. -/
def scalesOut (c : Dev nD) : Vec F S18432x8 .f32 := (dats m 0 c).arrAt 6 cfg0.N

theorem tail_dx (c : Dev nD) : tailV m c (Proc.devRef .tc main_v3) = shapeCast S12x1536x8192 (dxOut m c) shapeCasts_S18432x8192_S12x1536x8192 :=
  (after_tail _).1.trans (congrArg (fun a => shapeCast S12x1536x8192 a shapeCasts_S18432x8192_S12x1536x8192) (mid_arr m c 4))
theorem tail_codes (c : Dev nD) : tailV m c (Proc.devRef .tc main_v4) = shapeCast S12x1536x1024 (codesOut m c) shapeCasts_S18432x1024_S12x1536x1024 :=
  (after_tail _).2.1.trans (congrArg (fun a => shapeCast S12x1536x1024 a shapeCasts_S18432x1024_S12x1536x1024) (mid_arr m c 5))
theorem tail_scales (c : Dev nD) : tailV m c (Proc.devRef .tc main_v5) = shapeCast S12x1536x8 (scalesOut m c) shapeCasts_S18432x8_S12x1536x8 :=
  (after_tail _).2.2.trans (congrArg (fun a => shapeCast S12x1536x8 a shapeCasts_S18432x8_S12x1536x8) (mid_arr m c 6))

/-- The run with its results: the four results, the arguments as launched, every semaphore at zero. -/
theorem run : θ_run defs (onTc (τ := τ) (main (F := F))) ⟨m, fun _ => 0, ρ⟩ (fun r =>
    (∀ c : Dev nD,
      r.2.mem ((c.tc : Thread nD τ).loc main_v3) = shapeCast S12x1536x8192 (dxOut m c) shapeCasts_S18432x8192_S12x1536x8192
      ∧ r.2.mem ((c.tc : Thread nD τ).loc main_v2_1) = dwOf (accEnd m c)
      ∧ r.2.mem ((c.tc : Thread nD τ).loc main_v4) = shapeCast S12x1536x1024 (codesOut m c) shapeCasts_S18432x1024_S12x1536x1024
      ∧ r.2.mem ((c.tc : Thread nD τ).loc main_v5) = shapeCast S12x1536x8 (scalesOut m c) shapeCasts_S18432x8_S12x1536x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c =>
    ⟨((h.1 c).2 main_v3 (Pipeline.mem_restRefs_of main_v3 (by decide) (by decide))).trans (tail_dx m c),
     ((h.1 c).2 main_v2_1 (Pipeline.mem_restRefs_of main_v2_1 (by decide) (by decide))).trans (tail_dw m c),
     ((h.1 c).2 main_v4 (Pipeline.mem_restRefs_of main_v4 (by decide) (by decide))).trans (tail_codes m c),
     ((h.1 c).2 main_v5 (Pipeline.mem_restRefs_of main_v5 (by decide) (by decide))).trans (tail_scales m c),
     ((h.1 c).2 main_arg0 (Pipeline.mem_restRefs_of main_arg0 (by decide) (by decide))).trans (tail_main_arg0 m c),
     ((h.1 c).2 main_arg1 (Pipeline.mem_restRefs_of main_arg1 (by decide) (by decide))).trans (tail_main_arg1 m c),
     ((h.1 c).1 3).trans (((dats m 0 c).arrAt_in 3 rfl _).trans ((A_eq m c 3).trans (Gen.V_main_arg2 m c))),
     ((h.1 c).1 0).trans (((dats m 0 c).arrAt_in 0 rfl _).trans ((A_eq m c 0).trans (Gen.V_main_arg3 m c)))⟩, h.2⟩) (run_main m ρ)

/-- The frame: the arguments end as launched and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2.2.2, h.2⟩) (run m ρ)

end Cert.KernelIdeal.Hand

end
-- ==== Proof.Quantise.lean ====
/-
  Hand-written, untrusted. What both programs compute, over extended reals and free of blocks and buffers: the symmetric
  8-bit quantisation of a group of 128 values, the two gradients and the two quantised results.
-/
module

public import Idealize.ShloMosaic.Lib.Pointwise
public import Idealize.ShloMosaic.Lib.Pipeline.ValueKit

@[expose] public section

set_option maxRecDepth 16384

noncomputable section

namespace Cert.Quantise

open Idealize.ShloMosaic

/-- The largest magnitude of a group. -/
def peak (y : Fin 128 → Ideal .f32) : EReal :=
  Finset.univ.fold max (Ideal.ofBits .f32 0xFF800000#32) (fun x => (FloatOps.absf (y x) : Ideal .f32))

/-- A group's scale: its largest magnitude over 127, and 1 for a group of zeros. -/
def scale (y : Fin 128 → Ideal .f32) : EReal :=
  if peak y = 0 then 1 else Ideal.div (peak y) (Ideal.ofBits .f32 0x42FE0000#32)

/-- An element over its group's scale, rounded to an integer (ties to even) and clipped to ±127. -/
def level (y : Fin 128 → Ideal .f32) (k : Fin 128) : EReal :=
  min (Ideal.ofBits .f32 0x42FE0000#32) (max (Ideal.ofBits .f32 0xC2FE0000#32)
    (Ideal.liftRound Ideal.roundHalfEven (Ideal.div (y k) (scale y))))

/-- An element's 8-bit code. -/
def code (y : Fin 128 → Ideal .f32) (k : Fin 128) : BitVec 8 :=
  FloatOps.fptosi (F := Ideal) (φ := .f32) 8 (level y k)

theorem ofBits_127 : Ideal.ofBits .f32 0x42FE0000#32 = ((127 : ℝ) : EReal) := by
  simp [Ideal.ofBits, Ideal.ieee, -EReal.coe_mul]; norm_num

theorem ofBits_neg127 : Ideal.ofBits .f32 0xC2FE0000#32 = ((-127 : ℝ) : EReal) := by
  simp [Ideal.ofBits, Ideal.ieee, -EReal.coe_mul]; norm_num

/-- A level is an integer between −127 and 127. -/
theorem level_int (y : Fin 128 → Ideal .f32) (k : Fin 128) :
    ∃ n : ℤ, -127 ≤ n ∧ n ≤ 127 ∧ level y k = ((n : ℝ) : EReal) := by
  unfold level
  rw [ofBits_127, ofBits_neg127]
  generalize Ideal.div (y k) (scale y) = x
  induction x using EReal.rec with
  | bot =>
    refine ⟨-127, le_refl _, by decide, ?_⟩
    show min ((127 : ℝ) : EReal) (max ((-127 : ℝ) : EReal) ⊥) = _
    rw [max_eq_left bot_le, min_eq_right (EReal.coe_le_coe_iff.mpr (by norm_num))]
    norm_num
  | top =>
    refine ⟨127, by decide, le_refl _, ?_⟩
    show min ((127 : ℝ) : EReal) (max ((-127 : ℝ) : EReal) ⊤) = _
    rw [max_eq_right le_top, min_eq_left le_top]
    norm_num
  | coe r =>
    refine ⟨min 127 (max (-127) (Ideal.roundHalfEven r)), by omega, by omega, ?_⟩
    show min ((127 : ℝ) : EReal) (max ((-127 : ℝ) : EReal) ((Ideal.roundHalfEven r : ℝ) : EReal)) = _
    have hc : ∀ a b : ℤ, (((a : ℝ) : EReal) ≤ ((b : ℝ) : EReal)) ↔ a ≤ b := fun a b => by
      rw [EReal.coe_le_coe_iff, Int.cast_le]
    have hm : Monotone fun z : ℤ => ((z : ℝ) : EReal) := fun a b h => (hc a b).mpr h
    have e1 : ((127 : ℝ) : EReal) = (((127 : ℤ) : ℝ) : EReal) := by norm_num
    have e2 : ((-127 : ℝ) : EReal) = (((-127 : ℤ) : ℝ) : EReal) := by norm_num
    rw [e1, e2]
    exact ((hm.map_min (a := 127) (b := max (-127) (Ideal.roundHalfEven r))).trans
      (congrArg _ (hm.map_max (a := -127) (b := Ideal.roundHalfEven r)))).symm

/-- Converting a code back gives the level: the codes lose nothing. -/
theorem sitofp_code (φ : FTy) (y : Fin 128 → Ideal .f32) (k : Fin 128) :
    (FloatOps.sitofp φ (code y k) : Ideal φ) = level y k := by
  obtain ⟨n, h1, h2, h⟩ := level_int y k
  unfold code
  rw [h]
  show (((BitVec.ofInt 8 (max _ (min _ (if (0 : ℝ) ≤ (n : ℝ) then ⌊(n : ℝ)⌋ else ⌈(n : ℝ)⌉)))).toInt : ℝ) : EReal) = _
  have e : (if (0 : ℝ) ≤ (n : ℝ) then ⌊(n : ℝ)⌋ else ⌈(n : ℝ)⌉) = n := by split <;> simp
  rw [e]
  have e2 : (BitVec.ofInt 8 (max (-((2 ^ (8 - 1) : Nat) : Int)) (min (((2 ^ (8 - 1) : Nat) : Int) - 1) n))).toInt = n := by
    rw [max_eq_right (by norm_num; omega), min_eq_right (by norm_num; omega)]
    rw [BitVec.toInt_ofInt]
    exact Int.bmod_eq_of_le (by norm_num; omega) (by norm_num; omega)
  exact congrArg (fun z : ℤ => ((z : ℝ) : EReal)) e2

/-- A matrix as a function of its row and column. -/
def mat {a b : Nat} {α : Type} (v : (⟨2, ![a, b]⟩ : Shape).Idx → α) : Fin a → Fin b → α := fun i j => v (ix2 i j)

/-- The 128 values of group `g` of a row of the gradient. -/
def group (r : Fin 1024 → Ideal .bf16) (g : Fin 8) : Fin 128 → Ideal .f32 :=
  fun k => r ⟨g.val * 128 + k.val, by omega⟩

/-- The code of an element of a row of the gradient. -/
def codeAt (r : Fin 1024 → Ideal .bf16) (o : Fin 1024) : BitVec 8 :=
  code (group r ⟨o.val / 128, by omega⟩) ⟨o.val % 128, by omega⟩

/-- The gradient's element after quantisation and back. -/
def deqAt (r : Fin 1024 → Ideal .bf16) (o : Fin 1024) : EReal :=
  level (group r ⟨o.val / 128, by omega⟩) ⟨o.val % 128, by omega⟩ * scale (group r ⟨o.val / 128, by omega⟩)

/-- An element of the input gradient: a row of the dequantised gradient times a column of the integer weights, times the
    weights' scale. -/
def dxAt (r : Fin 1024 → Ideal .bf16) (w : Fin 1024 → BitVec 8) (s : EReal) : EReal :=
  (∑ o, deqAt r o * (FloatOps.sitofp .bf16 (w o) : Ideal .bf16)) * s

/-- An element of the weight gradient: a column of the gradient times a column of the activations. -/
def dwAt (y x : Fin 18432 → Ideal .bf16) : EReal := ∑ t, y t * x t

end Cert.Quantise

end
-- ==== Proof.KernelPay.lean ====
/-
  Hand-written, untrusted. The kernel's operations read at an index, and each block it leaves in the terms of the shared
  description.
-/
module

public import proofs.«01_k».proof.Proof.KIVal
public import proofs.«01_k».proof.Proof.Quantise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Quantise

theorem pay2_apply (v : Vec Ideal S512x128 .bf16) (p : Fin 512) : k0_pay2 v (ix2 p 0) = scale (mat v p) := by
  unfold k0_pay2 k0_pay1
  pointwise
  rfl

theorem pay3_apply (v : Vec Ideal S512x128 .bf16) (p : Fin 512) (q : Fin 128) : k0_pay3 v (ix2 p q) = level (mat v p) q := by
  have h := pay2_apply v p
  unfold k0_pay3 k0_pay1
  pointwise
  rw [h]
  rfl

theorem pay4_apply (v : Vec Ideal S512x128 .bf16) (p : Fin 512) (q : Fin 128) : k0_pay4 v (ix2 p q) = code (mat v p) q := by
  have h := pay3_apply v p q
  unfold k0_pay4
  pointwise
  rw [h]
  rfl

theorem pay5_apply (v : Vec Ideal S512x128 .bf16) (p : Fin 512) (q : Fin 128) :
    k0_pay5 v (ix2 p q) = level (mat v p) q * scale (mat v p) := by
  have h := pay3_apply v p q
  have h2 := pay2_apply v p
  unfold k0_pay5
  pointwise
  rw [h, h2]

theorem pay51_apply (w : Vec Ideal S1024x1024 .i8) (d : Vec Ideal S512x1024 .bf16) (s : Elt Ideal .f32) (p : Fin 512) (q : Fin 1024) :
    k0_pay51 w d s (ix2 p q) = (∑ o, d (ix2 p o) * (FloatOps.sitofp .bf16 (w (ix2 o q)) : Ideal .bf16)) * s := by
  unfold k0_pay51
  pointwise

theorem pay53_apply (y x : Vec Ideal S512x1024 .bf16) (p q : Fin 1024) :
    k0_pay53 (k0_pay50 y) x (ix3 0 p q) = ∑ t, y (ix2 t p) * x (ix2 t q) := by
  unfold k0_pay53 k0_pay52 k0_pay50
  pointwise

theorem pay54_apply (y x : Vec Ideal S512x1024 .bf16) (a : Vec Ideal S1x1024x1024 .f32) (p q : Fin 1024) :
    k0_pay54 (k0_pay50 y) x a (ix3 0 p q) = a (ix3 0 p q) + ∑ t, y (ix2 t p) * x (ix2 t q) := by
  unfold k0_pay54 k0_pay52 k0_pay50
  pointwise

/-- A group's rows are the block's rows, group by group. -/
theorem grp_row (y : Vec Ideal S512x1024 .bf16) (p : Fin 512) (g : Fin 8) : mat (grp y g) p = group (mat y p) g := by
  funext k
  show y _ = y _
  refine congrArg y (funext fun a => Fin.ext ?_)
  match a with
  | ⟨0, _⟩ => show 0 + 1 * p.val = p.val; omega
  | ⟨1, _⟩ => show 128 * g.val + 1 * k.val = g.val * 128 + k.val; omega

theorem codesOf_apply (y : Vec Ideal S512x1024 .bf16) (p : Fin 512) (q : Fin 1024) :
    codesOf y (ix2 p q) = codeAt (mat y p) q :=
  (pay4_apply (grp y ⟨q.val / 128, by omega⟩) p ⟨q.val % 128, by omega⟩).trans (by rw [grp_row]; rfl)

theorem scalesOf_apply (y : Vec Ideal S512x1024 .bf16) (p : Fin 512) (g : Fin 8) :
    scalesOf y (ix2 p g) = scale (group (mat y p) g) :=
  (pay2_apply (grp y g) p).trans (by rw [grp_row])

theorem deqOf_apply (y : Vec Ideal S512x1024 .bf16) (p : Fin 512) (q : Fin 1024) :
    deqOf y (ix2 p q) = deqAt (mat y p) q :=
  (pay5_apply (grp y ⟨q.val / 128, by omega⟩) p ⟨q.val % 128, by omega⟩).trans (by rw [grp_row]; rfl)

end Cert.KernelIdeal.Hand

end
-- ==== Proof.KernelArr.lean ====
/-
  Hand-written, untrusted. The blocks that the kernel reads, at the arrays they are cut from, and the four arrays it leaves,
  in the terms of the shared description.
-/
module

public import proofs.«01_k».proof.Proof.KIOut
public import proofs.«01_k».proof.Proof.KernelPay

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Cert.Quantise

variable (m : (ℓ : Loc nD τ sig) → Buf (Elt Ideal) ℓ)

/-- The gradient's rows, as the pipeline finds them. -/
def Ya (c : Dev nD) : Vec Ideal S18432x1024 .bf16 := Gen.V m c (Pipeline.arrRef spec0 2)
/-- The activations' rows, as the pipeline finds them. -/
def Xa (c : Dev nD) : Vec Ideal S18432x8192 .bf16 := Gen.V m c (Pipeline.arrRef spec0 1)
/-- The integer weights. -/
def Wa (c : Dev nD) : Vec Ideal S1024x8192 .i8 := Gen.V m c (Pipeline.arrRef spec0 3)
/-- The weights' scale. -/
def Sa (c : Dev nD) : Vec Ideal S1 .f32 := Gen.V m c (Pipeline.arrRef spec0 0)

/-- Every window's block at every point. -/
theorem idx : ∀ t : Fin cfg0.N, win0_0.index t = ![0] ∧ win0_1.index t = ![t.val / 8, t.val % 8] ∧ win0_2.index t = ![t.val / 8, 0]
    ∧ win0_3.index t = ![0, 0] ∧ win0_4.index t = ![t.val / 8, t.val % 8] ∧ win0_5.index t = ![t.val / 8, 0]
    ∧ win0_6.index t = ![t.val / 8, 0] ∧ (grid0.coords t 1).val = t.val % 8 :=
  (by decide +kernel : ∀ t : Fin grid0.N, _)

theorem point_lt (t : Fin cfg0.N) : t.val < 288 := Nat.lt_of_lt_of_eq t.isLt Gen.N_0

theorem iblk2 (c : Dev nD) (t : Fin cfg0.N) (p : Fin 512) (q : Fin 1024) (h : 512 * (t.val / 8) + p.val < 18432) :
    Gen.iblk m c 2 t (ix2 p q) = Ya m c (ix2 ⟨512 * (t.val / 8) + p.val, h⟩ q) := by
  blk_ext [Gen.iblk, Ya, idx t]

theorem iblk1 (c : Dev nD) (t : Fin cfg0.N) (p : Fin 512) (q : Fin 1024) (h : 512 * (t.val / 8) + p.val < 18432) (h' : 1024 * (t.val % 8) + q.val < 8192) :
    Gen.iblk m c 1 t (ix2 p q) = Xa m c (ix2 ⟨512 * (t.val / 8) + p.val, h⟩ ⟨1024 * (t.val % 8) + q.val, h'⟩) := by
  blk_ext [Gen.iblk, Xa, idx t]

theorem iblk3 (c : Dev nD) (t : Fin cfg0.N) (p : Fin 1024) (q : Fin 8192) :
    Gen.iblk m c 3 t (ix2 p q) = Wa m c (ix2 p q) := by
  blk_ext [Gen.iblk, Wa, idx t]

theorem iblk0 (c : Dev nD) (t : Fin cfg0.N) (i : Fin 1) : Gen.iblk m c 0 t (ix1 i) = Sa m c (ix1 0) := by
  blk_ext [Gen.iblk, Sa, idx t]

theorem mod_col (t : Fin cfg0.N) (q : Fin 1024) : 1024 * (t.val % 8) + q.val < 8192 := by omega

theorem row_lt (t : Fin cfg0.N) (p : Fin 512) : 512 * (t.val / 8) + p.val < 18432 := by have := point_lt t; omega

/-- A row of the gradient's block at a point is a row of the gradient. -/
theorem yb_row (c : Dev nD) (t : Fin cfg0.N) (p : Fin 512) :
    mat (yb m c (t.val / 8)) p = mat (Ya m c) ⟨512 * (t.val / 8) + p.val, row_lt t p⟩ := funext fun q => by
  have ht := point_lt t
  have e : (pt (8 * (t.val / 8))).val / 8 = t.val / 8 := by show (8 * (t.val / 8)) % 288 / 8 = _; omega
  refine (iblk2 m c (pt (8 * (t.val / 8))) p q (by rw [e]; exact row_lt t p)).trans ?_
  exact congrArg (Ya m c) (congrArg (fun i => ix2 i q) (Fin.ext (by show 512 * ((pt (8 * (t.val / 8))).val / 8) + _ = _; rw [e])))

theorem wcols_apply (c : Dev nD) (t : Fin cfg0.N) (o q : Fin 1024) :
    wcols (Gen.iblk m c 3 t) (grid0.coords t 1) (ix2 o q) = Wa m c (ix2 o ⟨1024 * (t.val % 8) + q.val, mod_col t q⟩) := by
  refine Eq.trans ?_ (iblk3 m c t o ⟨1024 * (t.val % 8) + q.val, mod_col t q⟩)
  refine congrArg (Gen.iblk m c 3 t) (funext fun a => Fin.ext ?_)
  have e := (idx t).2.2.2.2.2.2.2
  match a with
  | ⟨0, _⟩ => show 0 + 1 * o.val = o.val; omega
  | ⟨1, _⟩ => show 1024 * (grid0.coords t 1).val + 1 * q.val = 1024 * (t.val % 8) + q.val; omega

theorem wsV_apply (c : Dev nD) (t : Fin cfg0.N) (i : S1.Idx) : wsV m c t i = Sa m c (ix1 0) := by
  have e : i = ix1 (i 0) := eq_ix1 i
  rw [e]
  exact iblk0 m c t (i 0)

/-- Every pair of coordinates is an index of a matrix, and conversely. -/
theorem exists_ix2 {a b : Nat} (y : (⟨2, ![a, b]⟩ : Shape).Idx) : ∃ (p : Fin a) (q : Fin b), y = ix2 p q := ⟨y 0, y 1, eq_ix2 y⟩

theorem dxV_apply (c : Dev nD) (t : Fin cfg0.N) (p : Fin 512) (q : Fin 1024) :
    dxV m c t (ix2 p q) = dxAt (mat (Ya m c) ⟨512 * (t.val / 8) + p.val, row_lt t p⟩)
      (fun o => Wa m c (ix2 o ⟨1024 * (t.val % 8) + q.val, mod_col t q⟩)) (Sa m c (ix1 0)) := by
  refine (pay51_apply _ _ _ p q).trans ?_
  unfold dxAt
  refine congr (congrArg _ (Finset.sum_congr rfl fun o _ => ?_)) ?_
  · rw [deqOf_apply, yb_row, wcols_apply]
  · exact wsV_apply m c t _

theorem dxOut_eq (c : Dev nD) :
    dxOut m c = fun x => dxAt (mat (Ya m c) (x 0)) (fun o => Wa m c (ix2 o (x 1))) (Sa m c (ix1 0)) := by
  refine (dats m 0 c).arrAt_eq_of_covers 4 _ (by decide +kernel) fun t hf y => ?_
  blk_simp
  rw [after0_4]
  obtain ⟨p, q, rfl⟩ : ∃ (p : Fin 512) (q : Fin 1024), y = ix2 p q := exists_ix2 y
  have e : (win0_4.blk t).view.emb (ix2 p q) = ix2 ⟨512 * (t.val / 8) + p.val, row_lt t p⟩ ⟨1024 * (t.val % 8) + q.val, mod_col t q⟩ := by
    blk_ext [idx t]
  rw [e]
  exact dxV_apply m c t p q

theorem codesOut_eq (c : Dev nD) : codesOut m c = fun x => codeAt (mat (Ya m c) (x 0)) (x 1) := by
  refine (dats m 0 c).arrAt_eq_of_covers 5 _ (by decide +kernel) fun t hf y => ?_
  blk_simp
  rw [after0_5]
  obtain ⟨p, q, rfl⟩ : ∃ (p : Fin 512) (q : Fin 1024), y = ix2 p q := exists_ix2 y
  have e : (win0_5.blk t).view.emb (ix2 p q) = ix2 ⟨512 * (t.val / 8) + p.val, row_lt t p⟩ q := by
    blk_ext [idx t]
  rw [e, codesOf_apply, yb_row]
  rfl

theorem scalesOut_eq (c : Dev nD) : scalesOut m c = fun x => scale (group (mat (Ya m c) (x 0)) (x 1)) := by
  refine (dats m 0 c).arrAt_eq_of_covers 6 _ (by decide +kernel) fun t hf y => ?_
  blk_simp
  rw [after0_6]
  obtain ⟨p, q, rfl⟩ : ∃ (p : Fin 512) (q : Fin 8), y = ix2 p q := exists_ix2 y
  have e : (win0_6.blk t).view.emb (ix2 p q) = ix2 ⟨512 * (t.val / 8) + p.val, row_lt t p⟩ q := by
    blk_ext [idx t]
  rw [e, scalesOf_apply, yb_row]
  rfl

/-- Row `n`'s contribution to an element of the weight gradient; nothing past the last row. -/
def term (c : Dev nD) (p : Fin 1024) (q : Fin 8192) (n : ℕ) : EReal :=
  if h : n < 18432 then Ya m c (ix2 ⟨n, h⟩ p) * Xa m c (ix2 ⟨n, h⟩ q) else 0

theorem slab_col (j : Fin 8) (q : Fin 1024) : 1024 * j.val + q.val < 8192 := by omega

/-- A token block's contribution, as its rows'. -/
theorem block_sum (c : Dev nD) (j : Fin 8) (b : ℕ) (hb : b < 36) (p q : Fin 1024) :
    (∑ t : Fin 512, yb m c b (ix2 t p) * xb m c b j (ix2 t q) : EReal)
      = ∑ n ∈ Finset.range 512, term m c p ⟨1024 * j.val + q.val, slab_col j q⟩ (512 * b + n) := by
  rw [Finset.sum_range]
  refine Finset.sum_congr rfl fun t _ => ?_
  have hn : 512 * b + t.val < 18432 := by omega
  have e1 : (pt (8 * b)).val / 8 = b := by show (8 * b) % 288 / 8 = _; omega
  have e2 : (pt (8 * b + j.val)).val / 8 = b := by show (8 * b + j.val) % 288 / 8 = _; omega
  have e3 : (pt (8 * b + j.val)).val % 8 = j.val := by show (8 * b + j.val) % 288 % 8 = _; omega
  have h1 : yb m c b (ix2 t p) = Ya m c (ix2 ⟨512 * b + t.val, hn⟩ p) :=
    (iblk2 m c (pt (8 * b)) t p (by rw [e1]; exact hn)).trans
      (congrArg (Ya m c) (congrArg (fun i => ix2 i p) (Fin.ext (by show 512 * ((pt (8 * b)).val / 8) + _ = _; rw [e1]))))
  have h2 : xb m c b j (ix2 t q) = Xa m c (ix2 ⟨512 * b + t.val, hn⟩ ⟨1024 * j.val + q.val, slab_col j q⟩) :=
    (iblk1 m c (pt (8 * b + j.val)) t q (by rw [e2]; exact hn) (by rw [e3]; exact slab_col j q)).trans
      (congrArg (Xa m c) (congr (congrArg ix2 (Fin.ext (by show 512 * ((pt (8 * b + j.val)).val / 8) + _ = _; rw [e2])))
        (Fin.ext (by show 1024 * ((pt (8 * b + j.val)).val % 8) + _ = _; rw [e3]))))
  unfold term
  rw [dif_pos hn, h1, h2]

/-- The accumulator after token blocks 0 to `b` holds the sum over their rows. -/
theorem accV_apply (c : Dev nD) (j : Fin 8) (p q : Fin 1024) : ∀ b : ℕ, b < 36 →
    accV m c j b (ix3 0 p q) = ∑ n ∈ Finset.range (512 * (b + 1)), term m c p ⟨1024 * j.val + q.val, slab_col j q⟩ n
  | 0, hb => by
    unfold accV
    rw [pay53_apply]
    refine (block_sum m c j 0 hb p q).trans ?_
    refine Finset.sum_congr rfl fun n _ => ?_
    rw [Nat.mul_zero, Nat.zero_add]
  | b + 1, hb => by
    unfold accV
    rw [pay54_apply, accV_apply c j p q b (by omega), Nat.mul_succ 512 (b + 1), Finset.sum_range_add]
    exact congrArg _ (block_sum m c j (b + 1) hb p q)

theorem dwOut_eq (c : Dev nD) :
    dwOf (accEnd m c) = fun x => dwAt (fun t => Ya m c (ix2 t (x 0))) (fun t => Xa m c (ix2 t (x 1))) := by
  funext x
  obtain ⟨o, i, rfl⟩ : ∃ (o : Fin 1024) (i : Fin 8192), x = ix2 o i := exists_ix2 x
  refine (accV_apply m c ⟨i.val / 1024, by omega⟩ o ⟨i.val % 1024, by omega⟩ 35 (by decide)).trans ?_
  rw [Finset.sum_range]
  unfold dwAt
  refine Finset.sum_congr rfl fun t _ => ?_
  unfold term
  rw [dif_pos t.isLt]
  exact congrArg _ (congrArg (Xa m c) (congrArg (ix2 t) (Fin.ext (by show 1024 * (i.val / 1024) + i.val % 1024 = i.val; omega))))

end Cert.KernelIdeal.Hand

end
-- ==== Proof.RefPay.lean ====
/-
  Hand-written, untrusted. The reference's operations read at an index: what each of its four results holds there, in the
  terms of the shared description.
-/
module

public import proofs.«01_k».proof.Proof.Gen.ReferenceIdeal.Frame
public import proofs.«01_k».proof.Proof.Quantise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Cert.Quantise

theorem pay3_apply (v : Vec Ideal S18432x1024 .bf16) (p : Fin 18432) (g : Fin 8) (q : Fin 128) :
    k0_pay3 v (ix3 p g q) = group (mat v p) g q := by
  unfold k0_pay3 k0_pay2
  pointwise
  rfl

/-- A group's largest magnitude. -/
theorem peak_apply (v : Vec Ideal S18432x1024 .bf16) (p : Fin 18432) (g : Fin 8) :
    (multiReduction .maximumf [2] S18432x8 (absf (k0_pay3 v)) 0xFF800000#32 reduces_S18432x8x128_S18432x8 (.inl rfl) rfl) (ix2 p g)
      = peak (group (mat v p) g) := by
  have h : ∀ q, k0_pay3 v (ix3 p g q) = group (mat v p) g q := pay3_apply v p g
  generalize k0_pay3 v = u at h
  pointwise
  simp only [h]
  rfl

/-- The scale read from a group's largest magnitude. -/
theorem scale_read (u : FVec Ideal S18432x8 .f32) (j : S18432x8.Idx) :
    (select (cmpf .oeq u (broadcast S18432x8 (Scalar.ofBits .f32 0x00000000#32 : Ideal .f32)))
      (broadcast S18432x8 (Scalar.ofBits .f32 0x3F800000#32 : Ideal .f32))
      (divf u (broadcast S18432x8 (Scalar.ofBits .f32 0x42FE0000#32 : Ideal .f32))) : FVec Ideal S18432x8 .f32) j
      = if u j = 0 then 1 else Ideal.div (u j) (Ideal.ofBits .f32 0x42FE0000#32) := by
  pointwise

theorem pay4_apply (v : Vec Ideal S18432x1024 .bf16) (p : Fin 18432) (g : Fin 8) :
    k0_pay4 v (ix2 p g) = scale (group (mat v p) g) := by
  refine (scale_read _ (ix2 p g)).trans ?_
  rw [peak_apply]
  rfl

/-- The code read from an element and its group's scale. -/
theorem code_read (u : FVec Ideal S18432x8x128 .f32) (s : FVec Ideal S18432x8 .f32) (p : Fin 18432) (g : Fin 8) (q : Fin 128) :
    (fptosi 8 (minimumf (broadcast S18432x8x128 (Scalar.ofBits .f32 0x42FE0000#32 : Ideal .f32))
      (maximumf (broadcast S18432x8x128 (Scalar.ofBits .f32 0xC2FE0000#32 : Ideal .f32))
        (roundeven (divf u (broadcastTo S18432x8x128 (shapeCast S18432x8x1 s shapeCasts_S18432x8_S18432x8x1)
          broadcasts_S18432x8x1_S18432x8x128))))) : IVec S18432x8x128 8) (ix3 p g q)
      = FloatOps.fptosi (F := Ideal) (φ := .f32) 8 (min (Ideal.ofBits .f32 0x42FE0000#32) (max (Ideal.ofBits .f32 0xC2FE0000#32)
          (Ideal.liftRound Ideal.roundHalfEven (Ideal.div (u (ix3 p g q)) (s (ix2 p g)))))) := by
  pointwise

theorem pay5_apply (v : Vec Ideal S18432x1024 .bf16) (p : Fin 18432) (g : Fin 8) (q : Fin 128) :
    k0_pay5 v (ix3 p g q) = code (group (mat v p) g) q := by
  refine (code_read _ _ p g q).trans ?_
  rw [pay3_apply, pay4_apply]
  rfl

theorem codes_apply (v : Vec Ideal S18432x1024 .bf16) (p : Fin 18432) (q : Fin 1024) :
    k0_pay1 (k0_pay5 v) (ix2 p q) = codeAt (mat v p) q := by
  have h := fun g q => pay5_apply v p g q
  unfold k0_pay1
  generalize k0_pay5 v = u at h
  pointwise
  rw [h]
  rfl

/-- The dequantised gradient, as the reference's operations make it of the codes and the scales. -/
def deqR (u : IVec S18432x8x128 8) (s : FVec Ideal S18432x8 .f32) : FVec Ideal S18432x1024 .bf16 :=
  shapeCast S18432x1024 (mulf (sitofp .bf16 u : FVec Ideal S18432x8x128 .bf16)
    (broadcastTo S18432x8x128 (shapeCast S18432x8x1 (truncf .bf16 s bitsLt_bf16_f32) shapeCasts_S18432x8_S18432x8x1)
      broadcasts_S18432x8x1_S18432x8x128)) shapeCasts_S18432x8x128_S18432x1024

theorem deq_read (u : IVec S18432x8x128 8) (s : FVec Ideal S18432x8 .f32) (p : Fin 18432) (q : Fin 1024) :
    deqR u s (ix2 p q) = (FloatOps.sitofp .bf16 (u (ix3 p ⟨q.val / 128, by omega⟩ ⟨q.val % 128, by omega⟩)) : Ideal .bf16)
      * s (ix2 p ⟨q.val / 128, by omega⟩) := by
  unfold deqR
  pointwise

theorem deq_apply (v : Vec Ideal S18432x1024 .bf16) (p : Fin 18432) (q : Fin 1024) :
    deqR (k0_pay5 v) (k0_pay4 v) (ix2 p q) = deqAt (mat v p) q := by
  rw [deq_read, pay5_apply, pay4_apply, sitofp_code]
  rfl

/-- The input gradient read from the dequantised gradient. -/
theorem dx_read (d : FVec Ideal S18432x1024 .bf16) (w : Vec Ideal S1024x8192 .i8) (s : Vec Ideal S1 .f32) (p : Fin 18432) (q : Fin 8192) :
    (truncf .bf16 (mulf (matmul dot_S18432x1024_S1024x8192_S18432x8192_1_0_0_1_n_n none d (sitofp .bf16 w : FVec Ideal S1024x8192 .bf16)
        (constant S18432x8192 .f32 0x00000000#32))
      (broadcastTo S18432x8192 (shapeCast S1x1 s shapeCasts_S1_S1x1) broadcasts_S1x1_S18432x8192)) bitsLt_bf16_f32 : FVec Ideal S18432x8192 .bf16) (ix2 p q)
      = (∑ o, d (ix2 p o) * (FloatOps.sitofp .bf16 (w (ix2 o q)) : Ideal .bf16)) * s (ix1 0) := by
  pointwise

theorem dx_apply (v : Vec Ideal S18432x1024 .bf16) (w : Vec Ideal S1024x8192 .i8) (s : Vec Ideal S1 .f32) (p : Fin 18432) (q : Fin 8192) :
    k0_pay6 v w s (ix2 p q) = dxAt (mat v p) (fun o => w (ix2 o q)) (s (ix1 0)) := by
  refine (dx_read (deqR (k0_pay5 v) (k0_pay4 v)) w s p q).trans ?_
  simp only [deq_apply]
  rfl

theorem dw_apply (x : Vec Ideal S18432x8192 .bf16) (y : Vec Ideal S18432x1024 .bf16) (p : Fin 1024) (q : Fin 8192) :
    k0_pay7 x y (ix2 p q) = dwAt (fun t => y (ix2 t p)) (fun t => x (ix2 t q)) := by
  unfold k0_pay7 k0_pay2
  pointwise
  rfl

end Cert.ReferenceIdeal.Hand

end
-- ==== Proof.RefOut.lean ====
/-
  Hand-written, untrusted. The reference's run with its results: its one point's blocks are the whole arrays, so each of its
  four results is what its body computes from the arguments.
-/
module

public import proofs.«01_k».proof.Proof.RefPay

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem
open Cert.Quantise

variable (m : (ℓ : Loc nD τ sig) → Buf (Elt Ideal) ℓ) (ρ : Dev nD → PrngReg)

/-- The activations' rows. -/
def Xa (c : Dev nD) : Vec Ideal S18432x8192 .bf16 :=
  shapeCast S18432x8192 (m ((c : Thread nD τ).loc main_arg0) : Vec Ideal S12x1536x8192 .bf16) shapeCasts_S12x1536x8192_S18432x8192
/-- The gradient's rows. -/
def Ya (c : Dev nD) : Vec Ideal S18432x1024 .bf16 :=
  shapeCast S18432x1024 (m ((c : Thread nD τ).loc main_arg1) : Vec Ideal S12x1536x1024 .bf16) shapeCasts_S12x1536x1024_S18432x1024
/-- The integer weights. -/
def Wa (c : Dev nD) : Vec Ideal S1024x8192 .i8 := m ((c : Thread nD τ).loc main_arg2)
/-- The weights' scale. -/
def Sa (c : Dev nD) : Vec Ideal S1 .f32 := m ((c : Thread nD τ).loc main_arg3)

theorem V_x (c : Dev nD) : Gen.V m c (Pipeline.arrRef spec0 0) = Xa m c := by
  show StableHlo.after (List.flatten [hostOps0]) _ (Proc.devRef .tc main_v0) = _
  simp only [hostOps0, List.flatten_cons, List.flatten_nil, List.append_nil, StableHlo.after_cons, StableHlo.after_nil]
  rw [HloOp.result_of_not_mem _ _ (by rw [StableHlo.reshape_writes, Finset.mem_singleton]; exact StableHlo.devRef_ne_of_ne (by decide))]
  exact StableHlo.reshape_result main_arg0 main_v0 rfl _ _ _ _

theorem V_y (c : Dev nD) : Gen.V m c (Pipeline.arrRef spec0 1) = Ya m c := by
  show StableHlo.after (List.flatten [hostOps0]) _ (Proc.devRef .tc main_v1) = _
  simp only [hostOps0, List.flatten_cons, List.flatten_nil, List.append_nil, StableHlo.after_cons, StableHlo.after_nil]
  refine (StableHlo.reshape_result main_arg1 main_v1 rfl _ _ _ _).trans ?_
  rw [HloOp.result_of_not_mem _ _ (by rw [StableHlo.reshape_writes, Finset.mem_singleton]; exact StableHlo.devRef_ne_of_ne (by decide))]
  rfl

theorem V_w (c : Dev nD) : Gen.V m c (Pipeline.arrRef spec0 2) = Wa m c := Gen.V_main_arg2 m c
theorem V_s (c : Dev nD) : Gen.V m c (Pipeline.arrRef spec0 3) = Sa m c := Gen.V_main_arg3 m c

/-- Every window's one block is at the start of its array. -/
theorem idx : ∀ t : Fin cfg0.N, win0_0.index t = ![0, 0] ∧ win0_1.index t = ![0, 0] ∧ win0_2.index t = ![0, 0] ∧ win0_3.index t = ![0]
    ∧ win0_4.index t = ![0, 0] ∧ win0_5.index t = ![0, 0] ∧ win0_6.index t = ![0, 0] ∧ win0_7.index t = ![0, 0] :=
  (by decide +kernel : ∀ t : Fin grid0.N, _)

theorem iblk0 (c : Dev nD) (t : Fin cfg0.N) : Gen.iblk m c 0 t = Xa m c := by
  rw [← V_x]; funext j; blk_ext [Gen.iblk, idx t]

theorem iblk1 (c : Dev nD) (t : Fin cfg0.N) : Gen.iblk m c 1 t = Ya m c := by
  rw [← V_y]; funext j; blk_ext [Gen.iblk, idx t]

theorem iblk2 (c : Dev nD) (t : Fin cfg0.N) : Gen.iblk m c 2 t = Wa m c := by
  rw [← V_w]; funext j; blk_ext [Gen.iblk, idx t]

theorem iblk3 (c : Dev nD) (t : Fin cfg0.N) : Gen.iblk m c 3 t = Sa m c := by
  rw [← V_s]; funext j; blk_ext [Gen.iblk, idx t]

theorem emb4 (t : Fin cfg0.N) (y : S18432x8192.Idx) : (win0_4.blk t).view.emb y = y := by blk_ext [idx t]
theorem emb5 (t : Fin cfg0.N) (y : S1024x8192.Idx) : (win0_5.blk t).view.emb y = y := by blk_ext [idx t]
theorem emb6 (t : Fin cfg0.N) (y : S18432x1024.Idx) : (win0_6.blk t).view.emb y = y := by blk_ext [idx t]
theorem emb7 (t : Fin cfg0.N) (y : S18432x8.Idx) : (win0_7.blk t).view.emb y = y := by blk_ext [idx t]

theorem arr4 (c : Dev nD) : (dats m 0 c).arrAt 4 cfg0.N = k0_pay6 (Ya m c) (Wa m c) (Sa m c) := by
  refine (dats m 0 c).arrAt_eq_of_covers 4 _ (by decide +kernel) fun t hf y => ?_
  blk_simp
  rw [emb4 t y, after0_4, iblk0, iblk1, iblk2, iblk3]
  generalize Xa m c = x, Ya m c = y', Wa m c = w, Sa m c = s
  frame_out

theorem arr5 (c : Dev nD) : (dats m 0 c).arrAt 5 cfg0.N = k0_pay7 (Xa m c) (Ya m c) := by
  refine (dats m 0 c).arrAt_eq_of_covers 5 _ (by decide +kernel) fun t hf y => ?_
  blk_simp
  rw [emb5 t y, after0_5, iblk0, iblk1, iblk2, iblk3]
  generalize Xa m c = x, Ya m c = y', Wa m c = w, Sa m c = s
  frame_out

theorem arr6 (c : Dev nD) : (dats m 0 c).arrAt 6 cfg0.N = k0_pay1 (k0_pay5 (Ya m c)) := by
  refine (dats m 0 c).arrAt_eq_of_covers 6 _ (by decide +kernel) fun t hf y => ?_
  blk_simp
  rw [emb6 t y, after0_6, iblk0, iblk1, iblk2, iblk3]
  generalize Xa m c = x, Ya m c = y', Wa m c = w, Sa m c = s
  frame_out

theorem arr7 (c : Dev nD) : (dats m 0 c).arrAt 7 cfg0.N = k0_pay4 (Ya m c) := by
  refine (dats m 0 c).arrAt_eq_of_covers 7 _ (by decide +kernel) fun t hf y => ?_
  blk_simp
  rw [emb7 t y, after0_7, iblk0, iblk1, iblk2, iblk3]
  generalize Xa m c = x, Ya m c = y', Wa m c = w, Sa m c = s
  frame_out

theorem arr_inj : Function.Injective (Pipeline.arrRef spec0) := by decide

/-- The three lines after the region, each at what it reads. -/
theorem after_tail (W : Valuation τ sig (Elt Ideal)) :
    StableHlo.after (List.flatten [hostOps1]) W (Proc.devRef .tc main_v3) = shapeCast S12x1536x8192 (W (Proc.devRef .tc main_v2_0)) shapeCasts_S18432x8192_S12x1536x8192
    ∧ StableHlo.after (List.flatten [hostOps1]) W (Proc.devRef .tc main_v4) = shapeCast S12x1536x1024 (W (Proc.devRef .tc main_v2_2)) shapeCasts_S18432x1024_S12x1536x1024
    ∧ StableHlo.after (List.flatten [hostOps1]) W (Proc.devRef .tc main_v5) = shapeCast S12x1536x8 (W (Proc.devRef .tc main_v2_3)) shapeCasts_S18432x8_S12x1536x8 := by
  refine ⟨?_, ?_, ?_⟩
  all_goals
    simp only [hostOps1, List.flatten_cons, List.flatten_nil, List.append_nil, StableHlo.after_cons, StableHlo.after_nil]
  · rw [HloOp.result_of_not_mem _ _ (by rw [StableHlo.reshape_writes, Finset.mem_singleton]; exact StableHlo.devRef_ne_of_ne (by decide)),
      HloOp.result_of_not_mem _ _ (by rw [StableHlo.reshape_writes, Finset.mem_singleton]; exact StableHlo.devRef_ne_of_ne (by decide))]
    exact StableHlo.reshape_result main_v2_0 main_v3 rfl _ _ _ W
  · rw [HloOp.result_of_not_mem _ _ (by rw [StableHlo.reshape_writes, Finset.mem_singleton]; exact StableHlo.devRef_ne_of_ne (by decide))]
    refine (StableHlo.reshape_result main_v2_2 main_v4 rfl _ _ _ _).trans ?_
    rw [HloOp.result_of_not_mem _ _ (by rw [StableHlo.reshape_writes, Finset.mem_singleton]; exact StableHlo.devRef_ne_of_ne (by decide))]
    rfl
  · refine (StableHlo.reshape_result main_v2_3 main_v5 rfl _ _ _ _).trans ?_
    rw [HloOp.result_of_not_mem _ _ (by rw [StableHlo.reshape_writes, Finset.mem_singleton]; exact StableHlo.devRef_ne_of_ne (by decide)),
      HloOp.result_of_not_mem _ _ (by rw [StableHlo.reshape_writes, Finset.mem_singleton]; exact StableHlo.devRef_ne_of_ne (by decide))]
    rfl

/-- Window `w`'s array when the lines after the region are reached. -/
theorem mid_arr (c : Dev nD) (w : Fin cfg0.W) :
    (Pipeline.withArrays spec0 c (V0 m c) fun w => (dats m 0 c).arrAt w cfg0.N) (Proc.devRef .tc (Pipeline.arrRef spec0 w))
      = (dats m 0 c).arrAt w cfg0.N := Pipeline.withArrays_arr spec0 arr_inj c _ _ w

theorem tail_dx (c : Dev nD) : Pipeline.afterTail₀ cfgs (dats m) 0 (V0 m) [hostOps1] c main_v3
    = shapeCast S12x1536x8192 (k0_pay6 (Ya m c) (Wa m c) (Sa m c)) shapeCasts_S18432x8192_S12x1536x8192 :=
  (after_tail _).1.trans (congrArg (fun a => shapeCast S12x1536x8192 a shapeCasts_S18432x8192_S12x1536x8192) ((mid_arr m c 4).trans (arr4 m c)))
theorem tail_codes (c : Dev nD) : Pipeline.afterTail₀ cfgs (dats m) 0 (V0 m) [hostOps1] c main_v4
    = shapeCast S12x1536x1024 (k0_pay1 (k0_pay5 (Ya m c))) shapeCasts_S18432x1024_S12x1536x1024 :=
  (after_tail _).2.1.trans (congrArg (fun a => shapeCast S12x1536x1024 a shapeCasts_S18432x1024_S12x1536x1024) ((mid_arr m c 6).trans (arr6 m c)))
theorem tail_scales (c : Dev nD) : Pipeline.afterTail₀ cfgs (dats m) 0 (V0 m) [hostOps1] c main_v5
    = shapeCast S12x1536x8 (k0_pay4 (Ya m c)) shapeCasts_S18432x8_S12x1536x8 :=
  (after_tail _).2.2.trans (congrArg (fun a => shapeCast S12x1536x8 a shapeCasts_S18432x8_S12x1536x8) ((mid_arr m c 7).trans (arr7 m c)))

/-- The reference's run with its results. -/
theorem run : θ_run defs (onTc (τ := τ) (main (F := Ideal))) ⟨m, fun _ => 0, ρ⟩ (fun r =>
    ∀ c : Dev nD,
      r.2.mem ((c.tc : Thread nD τ).loc main_v3) = shapeCast S12x1536x8192 (k0_pay6 (Ya m c) (Wa m c) (Sa m c)) shapeCasts_S18432x8192_S12x1536x8192
      ∧ r.2.mem ((c.tc : Thread nD τ).loc main_v2_1) = k0_pay7 (Xa m c) (Ya m c)
      ∧ r.2.mem ((c.tc : Thread nD τ).loc main_v4) = shapeCast S12x1536x1024 (k0_pay1 (k0_pay5 (Ya m c))) shapeCasts_S18432x1024_S12x1536x1024
      ∧ r.2.mem ((c.tc : Thread nD τ).loc main_v5) = shapeCast S12x1536x8 (k0_pay4 (Ya m c)) shapeCasts_S18432x8_S12x1536x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h.1 c).2 main_v3 (Pipeline.mem_restRefs_of main_v3 (by decide) (by decide))).trans (tail_dx m c),
     ((h.1 c).1 5).trans (arr5 m c),
     ((h.1 c).2 main_v4 (Pipeline.mem_restRefs_of main_v4 (by decide) (by decide))).trans (tail_codes m c),
     ((h.1 c).2 main_v5 (Pipeline.mem_restRefs_of main_v5 (by decide) (by decide))).trans (tail_scales m c),
     h.2 c⟩) (θ_run_and (run_main m ρ) (unchanged m ρ))

end Cert.ReferenceIdeal.Hand

end
-- ==== Proof.Agree.lean ====
/-
  Hand-written, untrusted. Kernel and reference side by side: from equal arguments the four arrays are equal element by
  element, over the extended reals.
-/
module

public import proofs.«01_k».proof.Defs
public import proofs.«01_k».proof.Proof.KernelArr
public import proofs.«01_k».proof.Proof.RefOut

@[expose] public section

set_option maxRecDepth 16384

noncomputable section

open Idealize.ShloMosaic Idealize.ShloMosaic.TcCoe Idealize.ShloMosaic.Tactic Idealize.SL.Sem

namespace Cert.KernelIdeal.Hand

open Cert.KernelIdeal Cert.KernelIdeal.Gen

variable (m : (ℓ : Loc nD τ sig) → Buf (Elt Ideal) ℓ)

theorem Xa_eq (c : Dev nD) : Xa m c
    = shapeCast S18432x8192 (m ((c : Thread nD τ).loc main_arg0) : Vec Ideal S12x1536x8192 .bf16) shapeCasts_S12x1536x8192_S18432x8192 := by
  show StableHlo.after (List.flatten [hostOps0]) _ (Proc.devRef .tc main_v0) = _
  simp only [hostOps0, List.flatten_cons, List.flatten_nil, List.append_nil, StableHlo.after_cons, StableHlo.after_nil]
  rw [HloOp.result_of_not_mem _ _ (by rw [StableHlo.reshape_writes, Finset.mem_singleton]; exact StableHlo.devRef_ne_of_ne (by decide))]
  exact StableHlo.reshape_result main_arg0 main_v0 rfl _ _ _ _

theorem Ya_eq (c : Dev nD) : Ya m c
    = shapeCast S18432x1024 (m ((c : Thread nD τ).loc main_arg1) : Vec Ideal S12x1536x1024 .bf16) shapeCasts_S12x1536x1024_S18432x1024 := by
  show StableHlo.after (List.flatten [hostOps0]) _ (Proc.devRef .tc main_v1) = _
  simp only [hostOps0, List.flatten_cons, List.flatten_nil, List.append_nil, StableHlo.after_cons, StableHlo.after_nil]
  refine (StableHlo.reshape_result main_arg1 main_v1 rfl _ _ _ _).trans ?_
  rw [HloOp.result_of_not_mem _ _ (by rw [StableHlo.reshape_writes, Finset.mem_singleton]; exact StableHlo.devRef_ne_of_ne (by decide))]
  rfl

theorem Wa_eq (c : Dev nD) : Wa m c = m ((c : Thread nD τ).loc main_arg2) := Gen.V_main_arg2 m c
theorem Sa_eq (c : Dev nD) : Sa m c = m ((c : Thread nD τ).loc main_arg3) := Gen.V_main_arg3 m c

end Cert.KernelIdeal.Hand

namespace Cert.Agree

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two programs' arguments on device `c` are equal. -/
def Args (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

variable {m m'} {c : Dev Cert.KernelIdeal.nD}

theorem X_agree (h : Args m m' c) : Cert.KernelIdeal.Hand.Xa m c = Cert.ReferenceIdeal.Hand.Xa m' c :=
  (Cert.KernelIdeal.Hand.Xa_eq m c).trans
    (congrArg (fun a => shapeCast Cert.KernelIdeal.S18432x8192 (a : Vec Ideal Cert.KernelIdeal.S12x1536x8192 .bf16)
      Cert.KernelIdeal.Gen.shapeCasts_S12x1536x8192_S18432x8192) h.1.symm)

theorem Y_agree (h : Args m m' c) : Cert.KernelIdeal.Hand.Ya m c = Cert.ReferenceIdeal.Hand.Ya m' c :=
  (Cert.KernelIdeal.Hand.Ya_eq m c).trans
    (congrArg (fun a => shapeCast Cert.KernelIdeal.S18432x1024 (a : Vec Ideal Cert.KernelIdeal.S12x1536x1024 .bf16)
      Cert.KernelIdeal.Gen.shapeCasts_S12x1536x1024_S18432x1024) h.2.1.symm)

theorem W_agree (h : Args m m' c) : Cert.KernelIdeal.Hand.Wa m c = Cert.ReferenceIdeal.Hand.Wa m' c :=
  (Cert.KernelIdeal.Hand.Wa_eq m c).trans h.2.2.1.symm

theorem S_agree (h : Args m m' c) : Cert.KernelIdeal.Hand.Sa m c = Cert.ReferenceIdeal.Hand.Sa m' c :=
  (Cert.KernelIdeal.Hand.Sa_eq m c).trans h.2.2.2.symm

/-- The input gradients. -/
theorem dx_agree (h : Args m m' c) : Cert.KernelIdeal.Hand.dxOut m c
    = Cert.ReferenceIdeal.Gen.k0_pay6 (Cert.ReferenceIdeal.Hand.Ya m' c) (Cert.ReferenceIdeal.Hand.Wa m' c) (Cert.ReferenceIdeal.Hand.Sa m' c) := by
  rw [Cert.KernelIdeal.Hand.dxOut_eq, Y_agree h, W_agree h, S_agree h]
  funext x
  obtain ⟨p, q, rfl⟩ : ∃ (p : Fin 18432) (q : Fin 8192), x = ix2 p q := Cert.KernelIdeal.Hand.exists_ix2 x
  exact (Cert.ReferenceIdeal.Hand.dx_apply _ _ _ p q).symm

/-- The weight gradients. -/
theorem dw_agree (h : Args m m' c) : Cert.KernelIdeal.Hand.dwOf (Cert.KernelIdeal.Hand.accEnd m c)
    = Cert.ReferenceIdeal.Gen.k0_pay7 (Cert.ReferenceIdeal.Hand.Xa m' c) (Cert.ReferenceIdeal.Hand.Ya m' c) := by
  rw [Cert.KernelIdeal.Hand.dwOut_eq, X_agree h, Y_agree h]
  funext x
  obtain ⟨p, q, rfl⟩ : ∃ (p : Fin 1024) (q : Fin 8192), x = ix2 p q := Cert.KernelIdeal.Hand.exists_ix2 x
  exact (Cert.ReferenceIdeal.Hand.dw_apply _ _ p q).symm

/-- The codes. -/
theorem codes_agree (h : Args m m' c) : Cert.KernelIdeal.Hand.codesOut m c
    = Cert.ReferenceIdeal.Gen.k0_pay1 (Cert.ReferenceIdeal.Gen.k0_pay5 (Cert.ReferenceIdeal.Hand.Ya m' c)) := by
  rw [Cert.KernelIdeal.Hand.codesOut_eq, Y_agree h]
  funext x
  obtain ⟨p, q, rfl⟩ : ∃ (p : Fin 18432) (q : Fin 1024), x = ix2 p q := Cert.KernelIdeal.Hand.exists_ix2 x
  exact (Cert.ReferenceIdeal.Hand.codes_apply _ p q).symm

/-- The scales. -/
theorem scales_agree (h : Args m m' c) : Cert.KernelIdeal.Hand.scalesOut m c
    = Cert.ReferenceIdeal.Gen.k0_pay4 (Cert.ReferenceIdeal.Hand.Ya m' c) := by
  rw [Cert.KernelIdeal.Hand.scalesOut_eq, Y_agree h]
  funext x
  obtain ⟨p, q, rfl⟩ : ∃ (p : Fin 18432) (q : Fin 8), x = ix2 p q := Cert.KernelIdeal.Hand.exists_ix2 x
  exact (Cert.ReferenceIdeal.Hand.pay4_apply _ p q).symm

/-- From equal arguments both programs run and end with equal results. -/
theorem algebraic : Cert.algebraic_KernelIdeal_ReferenceIdeal (hKernelIdeal := Cert.KernelIdeal.Gen.facts) (hReferenceIdeal := Cert.ReferenceIdeal.Gen.facts) := by
  intro m g m' g' _ h
  refine ⟨fun c => shapeCast Cert.KernelIdeal.S12x1536x8192 (Cert.KernelIdeal.Hand.dxOut m c) Cert.KernelIdeal.Gen.shapeCasts_S18432x8192_S12x1536x8192,
    fun c => Cert.KernelIdeal.Hand.dwOf (Cert.KernelIdeal.Hand.accEnd m c),
    fun c => shapeCast Cert.KernelIdeal.S12x1536x1024 (Cert.KernelIdeal.Hand.codesOut m c) Cert.KernelIdeal.Gen.shapeCasts_S18432x1024_S12x1536x1024,
    fun c => shapeCast Cert.KernelIdeal.S12x1536x8 (Cert.KernelIdeal.Hand.scalesOut m c) Cert.KernelIdeal.Gen.shapeCasts_S18432x8_S12x1536x8,
    (θ_run _ _ _).mono (fun _ hr => hr.1) (Cert.KernelIdeal.Hand.run m g),
    (θ_run _ _ _).mono (fun _ hr c => ?_) (Cert.ReferenceIdeal.Hand.run m' g')⟩
  obtain ⟨h0, h1, h2, h3, hargs⟩ := hr c
  have ha : Args m m' c := h c
  refine ⟨h0.trans ?_, h1.trans (dw_agree ha).symm, h2.trans ?_, h3.trans ?_, hargs⟩
  · exact congrArg (fun a => shapeCast Cert.KernelIdeal.S12x1536x8192 a Cert.KernelIdeal.Gen.shapeCasts_S18432x8192_S12x1536x8192) (dx_agree ha).symm
  · exact congrArg (fun a => shapeCast Cert.KernelIdeal.S12x1536x1024 a Cert.KernelIdeal.Gen.shapeCasts_S18432x1024_S12x1536x1024) (codes_agree ha).symm
  · exact congrArg (fun a => shapeCast Cert.KernelIdeal.S12x1536x8 a Cert.KernelIdeal.Gen.shapeCasts_S18432x8_S12x1536x8) (scales_agree ha).symm

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KOut
public import proofs.«01_k».proof.Proof.KIOut
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial,
  Cert.Agree.algebraic⟩

end Cert.Proof

end
